-- ==== Defs.lean ====
def Pre_Kernel [hPre_positions_in_pack : Cert.Pre_positions_in_pack.Facts] (m : (ℓ : Loc Cert.Kernel.nD Cert.Kernel.τ Cert.Kernel.sig) → Buf (Elt Bits) ℓ) : Prop :=
  ∀ c : Dev Cert.Kernel.nD,
    (Cert.Pre_positions_in_pack.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_positions_in_pack : Cert.Pre_positions_in_pack.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_pack.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_in_pack [hPre_positions_in_pack : Cert.Pre_positions_in_pack.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_in_pack.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_exist : Cert.Pre_experts_exist.Facts] (m : (ℓ : Loc Cert.Kernel3.nD Cert.Kernel3.τ Cert.Kernel3.sig) → Buf (Elt Bits) ℓ) : Prop :=
  ∀ c : Dev Cert.Kernel3.nD,
    (Cert.Pre_experts_exist.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts_exist : Cert.Pre_experts_exist.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_exist.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_exist [hPre_experts_exist : Cert.Pre_experts_exist.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_exist.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def quiescent_Kernel [hKernel : Cert.Kernel.Facts] [hPre_positions_in_pack : Cert.Pre_positions_in_pack.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_positions_in_pack : Cert.Pre_positions_in_pack.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_positions_in_pack [hReferenceIdeal : Cert.ReferenceIdeal.Facts] [hPre_positions_in_pack : Cert.Pre_positions_in_pack.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_in_pack m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_experts_exist : Cert.Pre_experts_exist.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_exist [hReference3Ideal : Cert.Reference3Ideal.Facts] [hPre_experts_exist : Cert.Pre_experts_exist.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_exist m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_positions_in_pack : Cert.Pre_positions_in_pack.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9_8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_positions_in_pack : Cert.Pre_positions_in_pack.Facts) (hPre_experts_exist : Cert.Pre_experts_exist.Facts),
    quiescent_Kernel (hKernel := hKernel) (hPre_positions_in_pack := hPre_positions_in_pack)
    ∧ quiescent_KernelIdeal (hKernelIdeal := hKernelIdeal) (hPre_positions_in_pack := hPre_positions_in_pack)
    ∧ quiescent_ReferenceIdeal (hReferenceIdeal := hReferenceIdeal)
    ∧ quiescent_ReferenceIdeal_pre_positions_in_pack (hReferenceIdeal := hReferenceIdeal) (hPre_positions_in_pack := hPre_positions_in_pack)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_exist := hPre_experts_exist)
    ∧ quiescent_Kernel3Ideal (hKernel3Ideal := hKernel3Ideal) (hPre_experts_exist := hPre_experts_exist)
    ∧ quiescent_Reference3Ideal (hReference3Ideal := hReference3Ideal)
    ∧ quiescent_Reference3Ideal_pre_experts_exist (hReference3Ideal := hReference3Ideal) (hPre_experts_exist := hPre_experts_exist)
    ∧ preserves_Kernel_KernelIdeal
    ∧ algebraic_KernelIdeal_ReferenceIdeal (hKernelIdeal := hKernelIdeal) (hReferenceIdeal := hReferenceIdeal) (hPre_positions_in_pack := hPre_positions_in_pack)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_exist := hPre_experts_exist)
-- ==== Pre_experts_exist.lean ====
abbrev S160 : Shape := ⟨1, ![160]⟩
abbrev S1 : Shape := ⟨1, ![1]⟩
abbrev S81920x1024 : Shape := ⟨2, ![81920, 1024]⟩
abbrev S32x1024x256 : Shape := ⟨3, ![32, 1024, 256]⟩
abbrev S32x256x1024 : Shape := ⟨3, ![32, 256, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel

variable [Facts]

def fn {F : FTy → Type} [FloatOps F] (main_arg0 : IVec S160 32) (main_arg1 : IVec S1 32) (main_arg2 : FVec F S81920x1024 .f32) (main_arg3 : FVec F S32x1024x256 .f32) (main_arg4 : FVec F S32x1024x256 .f32) (main_arg5 : FVec F S32x256x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  main_v5
-- ==== Pre_positions_in_pack.lean ====
abbrev S32768 : Shape := ⟨1, ![32768]⟩
abbrev S32768x1024 : Shape := ⟨2, ![32768, 1024]⟩
abbrev S32768x128 : Shape := ⟨2, ![32768, 128]⟩
abbrev S16x2048x256 : Shape := ⟨3, ![16, 2048, 256]⟩
abbrev S1024 : Shape := ⟨1, ![1024]⟩
abbrev S1024x1024 : Shape := ⟨2, ![1024, 1024]⟩
abbrev S256x1024 : Shape := ⟨2, ![256, 1024]⟩
abbrev S81920x1024 : Shape := ⟨2, ![81920, 1024]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : IVec S32768 32) (main_arg1 : IVec S32768 32) (main_arg2 : FVec F S32768x1024 .f32) (main_arg3 : FVec F S32768x128 .f32) (main_arg4 : FVec F S16x2048x256 .f32) (main_arg5 : FVec F S1024 .f32) (main_arg6 : FVec F S1024x1024 .f32) (main_arg7 : FVec F S256x1024 .f32) (main_arg8 : FVec F S1024 .f32) (main_arg9 : FVec F S81920x1024 .f32) : IVec S_ 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 81920#32
  let main_v2 : IVec S32768 32 := broadcastInDim S32768 ![] bcast_S_S32768 main_c_0
  let main_v3 : IVec S32768 1 := cmpi .slt main_arg0 main_v2
  let main_v4 : IVec S32768 1 := andi main_v1 main_v3
  let main_c_1 : IVec S_ 32 := constantI S_ 32 0#32
  let main_v5 : IVec S32768 32 := broadcastInDim S32768 ![] bcast_S_S32768 main_c_1
  let main_v6 : IVec S32768 1 := cmpi .sge main_arg1 main_v5
  let main_v7 : IVec S32768 1 := andi main_v4 main_v6
  let main_c_2 : IVec S_ 32 := constantI S_ 32 81920#32
  let main_v8 : IVec S32768 32 := broadcastInDim S32768 ![] bcast_S_S32768 main_c_2
  let main_v9 : IVec S32768 1 := cmpi .slt main_arg1 main_v8
  let main_v10 : IVec S32768 1 := andi main_v7 main_v9
  let main_c_3 : IVec S_ 1 := constantI S_ 1 1#1
  let main_v11 : IVec S_ 1 := (fun x v => Host.reduce IntOp.andi x v reducesTo_S32768_S_d0 h_S_) main_v10 main_c_3
  main_v11
-- ==== Kernel.lean ====
abbrev S32768 : Shape := ⟨1, ![32768]⟩
abbrev S32768x1024 : Shape := ⟨2, ![32768, 1024]⟩
abbrev S32768x128 : Shape := ⟨2, ![32768, 128]⟩
abbrev S16x2048x256 : Shape := ⟨3, ![16, 2048, 256]⟩
abbrev S1024 : Shape := ⟨1, ![1024]⟩
abbrev S1024x1024 : Shape := ⟨2, ![1024, 1024]⟩
abbrev S256x1024 : Shape := ⟨2, ![256, 1024]⟩
abbrev S81920x1024 : Shape := ⟨2, ![81920, 1024]⟩
abbrev S32768x256 : Shape := ⟨2, ![32768, 256]⟩
abbrev S1x1024 : Shape := ⟨2, ![1, 1024]⟩
abbrev S512x1024 : Shape := ⟨2, ![512, 1024]⟩
abbrev S512x128 : Shape := ⟨2, ![512, 128]⟩
abbrev S512x256 : Shape := ⟨2, ![512, 256]⟩
abbrev S2x512x1024 : Shape := ⟨3, ![2, 512, 1024]⟩
abbrev S2 : Shape := ⟨1, ![2]⟩
abbrev S1 : Shape := ⟨1, ![1]⟩
abbrev S_ : Shape := ⟨0, ![]⟩
abbrev S1x1x1024 : Shape := ⟨3, ![1, 1, 1024]⟩
abbrev S512x1 : Shape := ⟨2, ![512, 1]⟩
abbrev S1x512x1024 : Shape := ⟨3, ![1, 512, 1024]⟩
abbrev S512 : Shape := ⟨1, ![512]⟩

abbrev nBuf : Space → Nat
  | .hbm => 14
  | .vmem => 14
  | .smem => 2
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S16x2048x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S81920x1024, .f32⟩
  | .hbm, ⟨8, _⟩ => ⟨S32768x256, .f32⟩
  | .hbm, ⟨9, _⟩ => ⟨S1x1024, .f32⟩
  | .hbm, ⟨10, _⟩ => ⟨S1024x1024, .bf16⟩
  | .hbm, ⟨11, _⟩ => ⟨S256x1024, .bf16⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S2x512x1024, .f32⟩
  | .local _ .vmem, ⟨13, _⟩ => ⟨S2x512x1024, .f32⟩
  | .local _ .smem, ⟨0, _⟩ => ⟨S32768, .i32⟩
  | .local _ .smem, ⟨1, _⟩ => ⟨S32768, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_34 : BitVec 32 := 0#32
  let c512_i32 : BitVec 32 := 512#32
  let v63 : BitVec 32 := Scalar.addi c0_i32_34 c512_i32
  let c1_i32_35 : BitVec 32 := 1#32
  ⟨c0_i32_34, v63, c1_i32_35⟩
def k0_off1 (i : grid0.Coords) (k0_t1 : Fin k0_t1_loop.trips) : Fin 1 → Nat :=
  let arg0 : BitVec 32 := BitVec.ofNat 32 (i 0).val
  let c512_i32_37 : BitVec 32 := 512#32
  let v64 : BitVec 32 := Scalar.muli arg0 c512_i32_37
  let c0_i32_34 : BitVec 32 := 0#32
  let c1_i32_35 : BitVec 32 := 1#32
  let arg15 : BitVec 32 := Scf.iv c0_i32_34 c1_i32_35 k0_t1
  let v65 : BitVec 32 := Scalar.addi v64 arg15
  let v66 : Index := Scalar.indexCast v65
  ![v66.toNat]
def k0_off2 (k0_t1 : Fin k0_t1_loop.trips) : Fin 3 → Nat :=
  let c0_i32_38 : BitVec 32 := 0#32
  let c0_i32_34 : BitVec 32 := 0#32
  let c1_i32_35 : BitVec 32 := 1#32
  let arg15 : BitVec 32 := Scf.iv c0_i32_34 c1_i32_35 k0_t1
  let c0_i32_40 : BitVec 32 := 0#32
  ![0, arg15.toNat, 0]
def k0_off3 (v67 : BitVec 32) : Fin 2 → Nat :=
  let c0_i32_41 : BitVec 32 := 0#32
  ![v67.toNat, 0]

def k0_chk1 (i : grid0.Coords) (v67 : BitVec 32) : Prop :=
  (∀ (k0_h1 : k0_cond1 i = 1#1), ∀ a, (k0_off3 v67) a + S1x1024.size a ≤ S81920x1024.size a)
theorem k0_off3_inb : ∀ (i : grid0.Coords) (v67 : BitVec 32) (k0_hw1 : k0_chk1 i v67), ∀ (k0_h1 : k0_cond1 i = 1#1), ∀ a, (k0_off3 v67) a + S1x1024.size a ≤ S81920x1024.size a := fun i v67 k0_hw1 k0_h1 => k0_hw1 k0_h1

def k0_off4 (i : grid0.Coords) (k0_t1 : Fin k0_t1_loop.trips) : Fin 1 → Nat :=
  let arg0 : BitVec 32 := BitVec.ofNat 32 (i 0).val
  let c512_i32_42 : BitVec 32 := 512#32
  let v73 : BitVec 32 := Scalar.muli arg0 c512_i32_42
  let c0_i32_34 : BitVec 32 := 0#32
  let c1_i32_35 : BitVec 32 := 1#32
  let arg15 : BitVec 32 := Scf.iv c0_i32_34 c1_i32_35 k0_t1
  let v74 : BitVec 32 := Scalar.addi v73 arg15
  let v75 : Index := Scalar.indexCast v74
  ![v75.toNat]
def k0_off5 (k0_t1 : Fin k0_t1_loop.trips) : Fin 3 → Nat :=
  let c1_i32_43 : BitVec 32 := 1#32
  let c0_i32_34 : BitVec 32 := 0#32
  let c1_i32_35 : BitVec 32 := 1#32
  let arg15 : BitVec 32 := Scf.iv c0_i32_34 c1_i32_35 k0_t1
  let c0_i32_45 : BitVec 32 := 0#32
  ![1, arg15.toNat, 0]
def k0_off6 (v76 : BitVec 32) : Fin 2 → Nat :=
  let c0_i32_46 : BitVec 32 := 0#32
  ![v76.toNat, 0]

def k0_chk2 (i : grid0.Coords) (v76 : BitVec 32) : Prop :=
  (∀ (k0_h1 : k0_cond1 i = 1#1), ∀ a, (k0_off6 v76) a + S1x1024.size a ≤ S81920x1024.size a)
theorem k0_off6_inb : ∀ (i : grid0.Coords) (v76 : BitVec 32) (k0_hw2 : k0_chk2 i v76), ∀ (k0_h1 : k0_cond1 i = 1#1), ∀ a, (k0_off6 v76) a + S1x1024.size a ≤ S81920x1024.size a := fun i v76 k0_hw2 k0_h1 => k0_hw2 k0_h1

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let c63_i32 : BitVec 32 := 63#32
  let v14 : BitVec 1 := Scalar.cmpi .slt arg0 c63_i32
  let v15 : BitVec 1 := Scalar.andi v13 v14
  let v16 : BitVec 32 := Scalar.extui v15
  let c0_i32_6 : BitVec 32 := 0#32
  let v17 : BitVec 1 := Scalar.cmpi .ne v16 c0_i32_6
  v17

@[reducible] def k0_t2_loop : Scf.Loop 32 :=
  let c0_i32_34 : BitVec 32 := 0#32
  let c512_i32 : BitVec 32 := 512#32
  let v63 : BitVec 32 := Scalar.addi c0_i32_34 c512_i32
  let c1_i32_35 : BitVec 32 := 1#32
  ⟨c0_i32_34, v63, c1_i32_35⟩
def k0_off7 (k0_t2 : Fin k0_t2_loop.trips) : Fin 3 → Nat :=
  let c0_i32_72 : BitVec 32 := 0#32
  let c0_i32_34 : BitVec 32 := 0#32
  let c1_i32_35 : BitVec 32 := 1#32
  let arg15 : BitVec 32 := Scf.iv c0_i32_34 c1_i32_35 k0_t2
  let c0_i32_74 : BitVec 32 := 0#32
  ![0, arg15.toNat, 0]
def k0_off8 (k0_t2 : Fin k0_t2_loop.trips) : Fin 3 → Nat :=
  let c1_i32_77 : BitVec 32 := 1#32
  let c0_i32_34 : BitVec 32 := 0#32
  let c1_i32_35 : BitVec 32 := 1#32
  let arg15 : BitVec 32 := Scf.iv c0_i32_34 c1_i32_35 k0_t2
  let c0_i32_79 : BitVec 32 := 0#32
  ![1, arg15.toNat, 0]
@[reducible] def k0_t3_loop : Scf.Loop 32 :=
  let c0_i32_38 : BitVec 32 := 0#32
  let c512_i32_39 : BitVec 32 := 512#32
  let v65 : BitVec 32 := Scalar.addi c0_i32_38 c512_i32_39
  let c1_i32_40 : BitVec 32 := 1#32
  ⟨c0_i32_38, v65, c1_i32_40⟩
def k0_off9 (i : grid0.Coords) (k0_t3 : Fin k0_t3_loop.trips) : Fin 1 → Nat :=
  let arg0 : BitVec 32 := BitVec.ofNat 32 (i 0).val
  let c1_i32_37 : BitVec 32 := 1#32
  let v64 : BitVec 32 := Scalar.addi arg0 c1_i32_37
  let c512_i32_72 : BitVec 32 := 512#32
  let v128 : BitVec 32 := Scalar.muli v64 c512_i32_72
  let c0_i32_38 : BitVec 32 := 0#32
  let c1_i32_40 : BitVec 32 := 1#32
  let arg15 : BitVec 32 := Scf.iv c0_i32_38 c1_i32_40 k0_t3
  let v129 : BitVec 32 := Scalar.addi v128 arg15
  let v130 : Index := Scalar.indexCast v129
  ![v130.toNat]
def k0_off10 (k0_t3 : Fin k0_t3_loop.trips) : Fin 3 → Nat :=
  let c0_i32_73 : BitVec 32 := 0#32
  let c0_i32_38 : BitVec 32 := 0#32
  let c1_i32_40 : BitVec 32 := 1#32
  let arg15 : BitVec 32 := Scf.iv c0_i32_38 c1_i32_40 k0_t3
  let c0_i32_75 : BitVec 32 := 0#32
  ![0, arg15.toNat, 0]
def k0_off11 (v131 : BitVec 32) : Fin 2 → Nat :=
  let c0_i32_76 : BitVec 32 := 0#32
  ![v131.toNat, 0]

def k0_chk3 (i : grid0.Coords) (v131 : BitVec 32) : Prop :=
  (∀ (k0_h2 : k0_cond2 i = 1#1), ∀ a, (k0_off11 v131) a + S1x1024.size a ≤ S81920x1024.size a)
theorem k0_off11_inb : ∀ (i : grid0.Coords) (v131 : BitVec 32) (k0_hw3 : k0_chk3 i v131), ∀ (k0_h2 : k0_cond2 i = 1#1), ∀ a, (k0_off11 v131) a + S1x1024.size a ≤ S81920x1024.size a := fun i v131 k0_hw3 k0_h2 => k0_hw3 k0_h2

def k0_off12 (i : grid0.Coords) (k0_t3 : Fin k0_t3_loop.trips) : Fin 1 → Nat :=
  let arg0 : BitVec 32 := BitVec.ofNat 32 (i 0).val
  let c1_i32_37 : BitVec 32 := 1#32
  let v64 : BitVec 32 := Scalar.addi arg0 c1_i32_37
  let c512_i32_77 : BitVec 32 := 512#32
  let v137 : BitVec 32 := Scalar.muli v64 c512_i32_77
  let c0_i32_38 : BitVec 32 := 0#32
  let c1_i32_40 : BitVec 32 := 1#32
  let arg15 : BitVec 32 := Scf.iv c0_i32_38 c1_i32_40 k0_t3
  let v138 : BitVec 32 := Scalar.addi v137 arg15
  let v139 : Index := Scalar.indexCast v138
  ![v139.toNat]
def k0_off13 (k0_t3 : Fin k0_t3_loop.trips) : Fin 3 → Nat :=
  let c1_i32_78 : BitVec 32 := 1#32
  let c0_i32_38 : BitVec 32 := 0#32
  let c1_i32_40 : BitVec 32 := 1#32
  let arg15 : BitVec 32 := Scf.iv c0_i32_38 c1_i32_40 k0_t3
  let c0_i32_80 : BitVec 32 := 0#32
  ![1, arg15.toNat, 0]
def k0_off14 (v140 : BitVec 32) : Fin 2 → Nat :=
  let c0_i32_81 : BitVec 32 := 0#32
  ![v140.toNat, 0]

def k0_chk4 (i : grid0.Coords) (v140 : BitVec 32) : Prop :=
  (∀ (k0_h2 : k0_cond2 i = 1#1), ∀ a, (k0_off14 v140) a + S1x1024.size a ≤ S81920x1024.size a)
theorem k0_off14_inb : ∀ (i : grid0.Coords) (v140 : BitVec 32) (k0_hw4 : k0_chk4 i v140), ∀ (k0_h2 : k0_cond2 i = 1#1), ∀ a, (k0_off14 v140) a + S1x1024.size a ≤ S81920x1024.size a := fun i v140 k0_hw4 k0_h2 => k0_hw4 k0_h2

def k0_cond3 (i : grid0.Coords) : BitVec 1 :=
  let arg0 : BitVec 32 := BitVec.ofNat 32 (i 0).val
  let c2_i32_7 : BitVec 32 := 2#32
  let c0_i32_8 : BitVec 32 := 0#32
  let v18 : BitVec 1 := Scalar.cmpi .eq c2_i32_7 c0_i32_8
  let c1_i32_9 : BitVec 32 := 1#32
  let v19 : BitVec 32 := Scalar.select v18 c1_i32_9 c2_i32_7
  let v20 : BitVec 32 := Scalar.remsi arg0 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_13 : BitVec 32 := 0#32
  let v28 : BitVec 1 := Scalar.cmpi .eq v27 c0_i32_13
  let c63_i32_14 : BitVec 32 := 63#32
  let v29 : BitVec 1 := Scalar.cmpi .eq arg0 c63_i32_14
  let v30 : BitVec 1 := Scalar.andi v28 v29
  let v31 : BitVec 32 := Scalar.extui v30
  let c0_i32_15 : BitVec 32 := 0#32
  let v32 : BitVec 1 := Scalar.cmpi .ne v31 c0_i32_15
  v32

@[reducible] def k0_t4_loop : Scf.Loop 32 :=
  let c0_i32_34 : BitVec 32 := 0#32
  let c512_i32 : BitVec 32 := 512#32
  let v63 : BitVec 32 := Scalar.addi c0_i32_34 c512_i32
  let c1_i32_35 : BitVec 32 := 1#32
  ⟨c0_i32_34, v63, c1_i32_35⟩
def k0_off15 (k0_t4 : Fin k0_t4_loop.trips) : Fin 3 → Nat :=
  let c0_i32_67 : BitVec 32 := 0#32
  let c0_i32_34 : BitVec 32 := 0#32
  let c1_i32_35 : BitVec 32 := 1#32
  let arg15 : BitVec 32 := Scf.iv c0_i32_34 c1_i32_35 k0_t4
  let c0_i32_69 : BitVec 32 := 0#32
  ![0, arg15.toNat, 0]
def k0_off16 (k0_t4 : Fin k0_t4_loop.trips) : Fin 3 → Nat :=
  let c1_i32_72 : BitVec 32 := 1#32
  let c0_i32_34 : BitVec 32 := 0#32
  let c1_i32_35 : BitVec 32 := 1#32
  let arg15 : BitVec 32 := Scf.iv c0_i32_34 c1_i32_35 k0_t4
  let c0_i32_74 : BitVec 32 := 0#32
  ![1, arg15.toNat, 0]
def k0_cond4 (i : grid0.Coords) : BitVec 1 :=
  let arg0 : BitVec 32 := BitVec.ofNat 32 (i 0).val
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi arg0 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let c1_i32_22 : BitVec 32 := 1#32
  let v43 : BitVec 1 := Scalar.cmpi .eq v42 c1_i32_22
  let c63_i32_23 : BitVec 32 := 63#32
  let v44 : BitVec 1 := Scalar.cmpi .slt arg0 c63_i32_23
  let v45 : BitVec 1 := Scalar.andi v43 v44
  let v46 : BitVec 32 := Scalar.extui v45
  let c0_i32_24 : BitVec 32 := 0#32
  let v47 : BitVec 1 := Scalar.cmpi .ne v46 c0_i32_24
  v47

@[reducible] def k0_t5_loop : Scf.Loop 32 :=
  let c0_i32_34 : BitVec 32 := 0#32
  let c512_i32 : BitVec 32 := 512#32
  let v63 : BitVec 32 := Scalar.addi c0_i32_34 c512_i32
  let c1_i32_35 : BitVec 32 := 1#32
  ⟨c0_i32_34, v63, c1_i32_35⟩
def k0_off17 (k0_t5 : Fin k0_t5_loop.trips) : Fin 3 → Nat :=
  let c0_i32_72 : BitVec 32 := 0#32
  let c0_i32_34 : BitVec 32 := 0#32
  let c1_i32_35 : BitVec 32 := 1#32
  let arg15 : BitVec 32 := Scf.iv c0_i32_34 c1_i32_35 k0_t5
  let c0_i32_74 : BitVec 32 := 0#32
  ![0, arg15.toNat, 0]
def k0_off18 (k0_t5 : Fin k0_t5_loop.trips) : Fin 3 → Nat :=
  let c1_i32_77 : BitVec 32 := 1#32
  let c0_i32_34 : BitVec 32 := 0#32
  let c1_i32_35 : BitVec 32 := 1#32
  let arg15 : BitVec 32 := Scf.iv c0_i32_34 c1_i32_35 k0_t5
  let c0_i32_79 : BitVec 32 := 0#32
  ![1, arg15.toNat, 0]
@[reducible] def k0_t6_loop : Scf.Loop 32 :=
  let c0_i32_38 : BitVec 32 := 0#32
  let c512_i32_39 : BitVec 32 := 512#32
  let v65 : BitVec 32 := Scalar.addi c0_i32_38 c512_i32_39
  let c1_i32_40 : BitVec 32 := 1#32
  ⟨c0_i32_38, v65, c1_i32_40⟩
def k0_off19 (i : grid0.Coords) (k0_t6 : Fin k0_t6_loop.trips) : Fin 1 → Nat :=
  let arg0 : BitVec 32 := BitVec.ofNat 32 (i 0).val
  let c1_i32_37 : BitVec 32 := 1#32
  let v64 : BitVec 32 := Scalar.addi arg0 c1_i32_37
  let c512_i32_72 : BitVec 32 := 512#32
  let v128 : BitVec 32 := Scalar.muli v64 c512_i32_72
  let c0_i32_38 : BitVec 32 := 0#32
  let c1_i32_40 : BitVec 32 := 1#32
  let arg15 : BitVec 32 := Scf.iv c0_i32_38 c1_i32_40 k0_t6
  let v129 : BitVec 32 := Scalar.addi v128 arg15
  let v130 : Index := Scalar.indexCast v129
  ![v130.toNat]
def k0_off20 (k0_t6 : Fin k0_t6_loop.trips) : Fin 3 → Nat :=
  let c0_i32_73 : BitVec 32 := 0#32
  let c0_i32_38 : BitVec 32 := 0#32
  let c1_i32_40 : BitVec 32 := 1#32
  let arg15 : BitVec 32 := Scf.iv c0_i32_38 c1_i32_40 k0_t6
  let c0_i32_75 : BitVec 32 := 0#32
  ![0, arg15.toNat, 0]
def k0_off21 (v131 : BitVec 32) : Fin 2 → Nat :=
  let c0_i32_76 : BitVec 32 := 0#32
  ![v131.toNat, 0]

def k0_chk5 (i : grid0.Coords) (v131 : BitVec 32) : Prop :=
  (∀ (k0_h4 : k0_cond4 i = 1#1), ∀ a, (k0_off21 v131) a + S1x1024.size a ≤ S81920x1024.size a)
theorem k0_off21_inb : ∀ (i : grid0.Coords) (v131 : BitVec 32) (k0_hw5 : k0_chk5 i v131), ∀ (k0_h4 : k0_cond4 i = 1#1), ∀ a, (k0_off21 v131) a + S1x1024.size a ≤ S81920x1024.size a := fun i v131 k0_hw5 k0_h4 => k0_hw5 k0_h4

def k0_off22 (i : grid0.Coords) (k0_t6 : Fin k0_t6_loop.trips) : Fin 1 → Nat :=
  let arg0 : BitVec 32 := BitVec.ofNat 32 (i 0).val
  let c1_i32_37 : BitVec 32 := 1#32
  let v64 : BitVec 32 := Scalar.addi arg0 c1_i32_37
  let c512_i32_77 : BitVec 32 := 512#32
  let v137 : BitVec 32 := Scalar.muli v64 c512_i32_77
  let c0_i32_38 : BitVec 32 := 0#32
  let c1_i32_40 : BitVec 32 := 1#32
  let arg15 : BitVec 32 := Scf.iv c0_i32_38 c1_i32_40 k0_t6
  let v138 : BitVec 32 := Scalar.addi v137 arg15
  let v139 : Index := Scalar.indexCast v138
  ![v139.toNat]
def k0_off23 (k0_t6 : Fin k0_t6_loop.trips) : Fin 3 → Nat :=
  let c1_i32_78 : BitVec 32 := 1#32
  let c0_i32_38 : BitVec 32 := 0#32
  let c1_i32_40 : BitVec 32 := 1#32
  let arg15 : BitVec 32 := Scf.iv c0_i32_38 c1_i32_40 k0_t6
  let c0_i32_80 : BitVec 32 := 0#32
  ![1, arg15.toNat, 0]
def k0_off24 (v140 : BitVec 32) : Fin 2 → Nat :=
  let c0_i32_81 : BitVec 32 := 0#32
  ![v140.toNat, 0]

def k0_chk6 (i : grid0.Coords) (v140 : BitVec 32) : Prop :=
  (∀ (k0_h4 : k0_cond4 i = 1#1), ∀ a, (k0_off24 v140) a + S1x1024.size a ≤ S81920x1024.size a)
theorem k0_off24_inb : ∀ (i : grid0.Coords) (v140 : BitVec 32) (k0_hw6 : k0_chk6 i v140), ∀ (k0_h4 : k0_cond4 i = 1#1), ∀ a, (k0_off24 v140) a + S1x1024.size a ≤ S81920x1024.size a := fun i v140 k0_hw6 k0_h4 => k0_hw6 k0_h4

def k0_cond5 (i : grid0.Coords) : BitVec 1 :=
  let arg0 : BitVec 32 := BitVec.ofNat 32 (i 0).val
  let c2_i32_25 : BitVec 32 := 2#32
  let c0_i32_26 : BitVec 32 := 0#32
  let v48 : BitVec 1 := Scalar.cmpi .eq c2_i32_25 c0_i32_26
  let c1_i32_27 : BitVec 32 := 1#32
  let v49 : BitVec 32 := Scalar.select v48 c1_i32_27 c2_i32_25
  let v50 : BitVec 32 := Scalar.remsi arg0 v49
  let c0_i32_29 : BitVec 32 := 0#32
  let v52 : BitVec 1 := Scalar.cmpi .slt v50 c0_i32_29
  let c0_i32_30 : BitVec 32 := 0#32
  let v53 : BitVec 1 := Scalar.cmpi .slt v49 c0_i32_30
  let v54 : BitVec 1 := Scalar.xori v52 v53
  let c0_i32_28 : BitVec 32 := 0#32
  let v51 : BitVec 1 := Scalar.cmpi .ne v50 c0_i32_28
  let v55 : BitVec 1 := Scalar.andi v54 v51
  let v56 : BitVec 32 := Scalar.addi v50 v49
  let v57 : BitVec 32 := Scalar.select v55 v56 v50
  let c1_i32_31 : BitVec 32 := 1#32
  let v58 : BitVec 1 := Scalar.cmpi .eq v57 c1_i32_31
  let c63_i32_32 : BitVec 32 := 63#32
  let v59 : BitVec 1 := Scalar.cmpi .eq arg0 c63_i32_32
  let v60 : BitVec 1 := Scalar.andi v58 v59
  let v61 : BitVec 32 := Scalar.extui v60
  let c0_i32_33 : BitVec 32 := 0#32
  let v62 : BitVec 1 := Scalar.cmpi .ne v61 c0_i32_33
  v62

@[reducible] def k0_t7_loop : Scf.Loop 32 :=
  let c0_i32_34 : BitVec 32 := 0#32
  let c512_i32 : BitVec 32 := 512#32
  let v63 : BitVec 32 := Scalar.addi c0_i32_34 c512_i32
  let c1_i32_35 : BitVec 32 := 1#32
  ⟨c0_i32_34, v63, c1_i32_35⟩
def k0_off25 (k0_t7 : Fin k0_t7_loop.trips) : Fin 3 → Nat :=
  let c0_i32_67 : BitVec 32 := 0#32
  let c0_i32_34 : BitVec 32 := 0#32
  let c1_i32_35 : BitVec 32 := 1#32
  let arg15 : BitVec 32 := Scf.iv c0_i32_34 c1_i32_35 k0_t7
  let c0_i32_69 : BitVec 32 := 0#32
  ![0, arg15.toNat, 0]
def k0_off26 (k0_t7 : Fin k0_t7_loop.trips) : Fin 3 → Nat :=
  let c1_i32_72 : BitVec 32 := 1#32
  let c0_i32_34 : BitVec 32 := 0#32
  let c1_i32_35 : BitVec 32 := 1#32
  let arg15 : BitVec 32 := Scf.iv c0_i32_34 c1_i32_35 k0_t7
  let c0_i32_74 : BitVec 32 := 0#32
  ![1, arg15.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32768 : Shape := ⟨1, ![32768]⟩
abbrev S32768x1024 : Shape := ⟨2, ![32768, 1024]⟩
abbrev S32768x128 : Shape := ⟨2, ![32768, 128]⟩
abbrev S16x2048x256 : Shape := ⟨3, ![16, 2048, 256]⟩
abbrev S1024 : Shape := ⟨1, ![1024]⟩
abbrev S1024x1024 : Shape := ⟨2, ![1024, 1024]⟩
abbrev S256x1024 : Shape := ⟨2, ![256, 1024]⟩
abbrev S81920x1024 : Shape := ⟨2, ![81920, 1024]⟩
abbrev S32768x1 : Shape := ⟨2, ![32768, 1]⟩
abbrev S_ : Shape := ⟨0, ![]⟩
abbrev S1x1024 : Shape := ⟨2, ![1, 1024]⟩
abbrev S32768x256 : Shape := ⟨2, ![32768, 256]⟩

abbrev nBuf : Space → Nat
  | .hbm => 81
  | .vmem => 0
  | .smem => 0
  | _ => 0

abbrev bufTy : (tb : Table) → Fin (tcTables nBuf tb) → BufTy
  | .hbm, ⟨0, _⟩ => ⟨S32768, .i32⟩
  | .hbm, ⟨1, _⟩ => ⟨S32768, .i32⟩
  | .hbm, ⟨2, _⟩ => ⟨S32768x1024, .f32⟩
  | .hbm, ⟨3, _⟩ => ⟨S32768x128, .f32⟩
  | .hbm, ⟨4, _⟩ => ⟨S16x2048x256, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024, .f32⟩
  | .hbm, ⟨9, _⟩ => ⟨S81920x1024, .f32⟩
  | .hbm, ⟨10, _⟩ => ⟨S32768x1, .f32⟩
  | .hbm, ⟨11, _⟩ => ⟨S_, .i32⟩
  | .hbm, ⟨12, _⟩ => ⟨S32768, .i32⟩
  | .hbm, ⟨13, _⟩ => ⟨S32768, .i1⟩
  | .hbm, ⟨14, _⟩ => ⟨S_, .i32⟩
  | .hbm, ⟨15, _⟩ => ⟨S32768, .i32⟩
  | .hbm, ⟨16, _⟩ => ⟨S32768, .i32⟩
  | .hbm, ⟨17, _⟩ => ⟨S32768, .i32⟩
  | .hbm, ⟨18, _⟩ => ⟨S32768x1, .i32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1, .f32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S32768x1, .i32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768x1024, .f32⟩
  | .hbm, ⟨60, _⟩ => ⟨S32768x1024, .f32⟩
  | .hbm, ⟨61, _⟩ => ⟨S32768x256, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S_, .f32⟩
  | .hbm, ⟨67, _⟩ => ⟨S32768, .f32⟩
  | .hbm, ⟨68, _⟩ => ⟨S32768x1, .f32⟩
  | .hbm, ⟨69, _⟩ => ⟨S_, .f32⟩
  | .hbm, ⟨70, _⟩ => ⟨S32768x1, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S32768x1, .f32⟩
  | .hbm, ⟨76, _⟩ => ⟨S32768x1024, .f32⟩
  | .hbm, ⟨77, _⟩ => ⟨S32768x1024, .f32⟩
  | .hbm, ⟨78, _⟩ => ⟨S1x1024, .f32⟩
  | .hbm, ⟨79, _⟩ => ⟨S32768x1024, .f32⟩
  | .hbm, ⟨80, _⟩ => ⟨S32768x1024, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x4096 : Shape := ⟨2, ![1024, 4096]⟩
abbrev S32768x1024 : Shape := ⟨2, ![32768, 1024]⟩
abbrev S1x1024 : Shape := ⟨2, ![1, 1024]⟩
abbrev S32768x1792 : Shape := ⟨2, ![32768, 1792]⟩
abbrev S32768x256 : Shape := ⟨2, ![32768, 256]⟩
abbrev S32768x2048 : Shape := ⟨2, ![32768, 2048]⟩
abbrev S512x1024 : Shape := ⟨2, ![512, 1024]⟩
abbrev S512x1792 : Shape := ⟨2, ![512, 1792]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S1024x1792 : Shape := ⟨2, ![1024, 1792]⟩
abbrev S1024x256 : Shape := ⟨2, ![1024, 256]⟩
abbrev S1024x2048 : Shape := ⟨2, ![1024, 2048]⟩

abbrev nBuf : Space → Nat
  | .hbm => 9
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S32768x1024, .f32⟩
  | .hbm, ⟨4, _⟩ => ⟨S1x1024, .f32⟩
  | .hbm, ⟨5, _⟩ => ⟨S1024x4096, .bf16⟩
  | .hbm, ⟨6, _⟩ => ⟨S32768x1792, .f32⟩
  | .hbm, ⟨7, _⟩ => ⟨S32768x256, .f32⟩
  | .hbm, ⟨8, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x1792, .f32⟩
  | .local _ .vmem, ⟨5, _⟩ => ⟨S512x1792, .f32⟩
  | .local _ .vmem, ⟨6, _⟩ => ⟨S512x256, .f32⟩
  | .local _ .vmem, ⟨7, _⟩ => ⟨S512x256, .f32⟩
  | .local _ .vmem, ⟨8, _⟩ => ⟨S512x2048, .bf16⟩
  | .local _ .vmem, ⟨9, _⟩ => ⟨S512x2048, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x2048x1024 : Shape := ⟨3, ![16, 2048, 1024]⟩
abbrev S1024 : Shape := ⟨1, ![1024]⟩
abbrev S1024x4096 : Shape := ⟨2, ![1024, 4096]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S32768x4096 : Shape := ⟨2, ![32768, 4096]⟩
abbrev S32768x1792 : Shape := ⟨2, ![32768, 1792]⟩
abbrev S32768x256 : Shape := ⟨2, ![32768, 256]⟩
abbrev S32768x2048 : Shape := ⟨2, ![32768, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x4096, .f32⟩
  | .hbm, ⟨20, _⟩ => ⟨S32768x4096, .f32⟩
  | .hbm, ⟨21, _⟩ => ⟨S32768x1792, .f32⟩
  | .hbm, ⟨22, _⟩ => ⟨S32768x256, .f32⟩
  | .hbm, ⟨23, _⟩ => ⟨S32768x2048, .f32⟩
  | .hbm, ⟨24, _⟩ => ⟨S32768x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S160 : Shape := ⟨1, ![160]⟩
abbrev S1 : Shape := ⟨1, ![1]⟩
abbrev S81920x1024 : Shape := ⟨2, ![81920, 1024]⟩
abbrev S32x1024x256 : Shape := ⟨3, ![32, 1024, 256]⟩
abbrev S32x256x1024 : Shape := ⟨3, ![32, 256, 1024]⟩
abbrev S512x1024 : Shape := ⟨2, ![512, 1024]⟩
abbrev S1x1024x256 : Shape := ⟨3, ![1, 1024, 256]⟩
abbrev S1x256x1024 : Shape := ⟨3, ![1, 256, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S81920x1024, .f32⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S81920x1024, .f32⟩
  | .local _ .vmem, ⟨0, _⟩ => ⟨S512x1024, .f32⟩
  | .local _ .vmem, ⟨1, _⟩ => ⟨S512x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S512x1024, .f32⟩
  | .local _ .vmem, ⟨9, _⟩ => ⟨S512x1024, .f32⟩
  | .local _ .smem, ⟨0, _⟩ => ⟨S160, .i32⟩
  | .local _ .smem, ⟨1, _⟩ => ⟨S1, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S160 : Shape := ⟨1, ![160]⟩
abbrev S1 : Shape := ⟨1, ![1]⟩
abbrev S81920x1024 : Shape := ⟨2, ![81920, 1024]⟩
abbrev S32x1024x256 : Shape := ⟨3, ![32, 1024, 256]⟩
abbrev S32x256x1024 : Shape := ⟨3, ![32, 256, 1024]⟩
abbrev S160x512 : Shape := ⟨2, ![160, 512]⟩
abbrev S81920 : Shape := ⟨1, ![81920]⟩
abbrev S_ : Shape := ⟨0, ![]⟩
abbrev S1x1024x256 : Shape := ⟨3, ![1, 1024, 256]⟩
abbrev S1024x256 : Shape := ⟨2, ![1024, 256]⟩
abbrev S81920x256 : Shape := ⟨2, ![81920, 256]⟩
abbrev S81920x1 : Shape := ⟨2, ![81920, 1]⟩
abbrev S1x256x1024 : Shape := ⟨3, ![1, 256, 1024]⟩
abbrev S256x1024 : Shape := ⟨2, ![256, 1024]⟩

abbrev nBuf : Space → Nat
  | .hbm => 125
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S160x512, .i32⟩
  | .hbm, ⟨7, _⟩ => ⟨S81920, .i32⟩
  | .hbm, ⟨8, _⟩ => ⟨S160, .i32⟩
  | .hbm, ⟨9, _⟩ => ⟨S_, .i32⟩
  | .hbm, ⟨10, _⟩ => ⟨S160, .i32⟩
  | .hbm, ⟨11, _⟩ => ⟨S160, .i1⟩
  | .hbm, ⟨12, _⟩ => ⟨S160x512, .i1⟩
  | .hbm, ⟨13, _⟩ => ⟨S81920, .i1⟩
  | .hbm, ⟨14, _⟩ => ⟨S_, .f32⟩
  | .hbm, ⟨15, _⟩ => ⟨S81920x1024, .f32⟩
  | .hbm, ⟨16, _⟩ => ⟨S_, .i32⟩
  | .hbm, ⟨17, _⟩ => ⟨S_, .i32⟩
  | .hbm, ⟨18, _⟩ => ⟨S32x1024x256, .f32⟩
  | .hbm, ⟨19, _⟩ => ⟨S81920x1024, .f32⟩
  | .hbm, ⟨20, _⟩ => ⟨S32x1024x256, .f32⟩
  | .hbm, ⟨21, _⟩ => ⟨S81920, .i32⟩
  | .hbm, ⟨22, _⟩ => ⟨S81920, .i1⟩
  | .hbm, ⟨23, _⟩ => ⟨S32x256x1024, .f32⟩
  | .hbm, ⟨24, _⟩ => ⟨S_, .i32⟩
  | .hbm, ⟨25, _⟩ => ⟨S_, .i32⟩
  | .hbm, ⟨26, _⟩ => ⟨S81920x1024, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x1024x256, .f32⟩
  | .hbm, ⟨54, _⟩ => ⟨S1024x256, .f32⟩
  | .hbm, ⟨55, _⟩ => ⟨S81920x256, .f32⟩
  | .hbm, ⟨56, _⟩ => ⟨S81920x256, .f32⟩
  | .hbm, ⟨57, _⟩ => ⟨S81920x256, .f32⟩
  | .hbm, ⟨58, _⟩ => ⟨S_, .f32⟩
  | .hbm, ⟨59, _⟩ => ⟨S81920x256, .f32⟩
  | .hbm, ⟨60, _⟩ => ⟨S81920x256, .f32⟩
  | .hbm, ⟨61, _⟩ => ⟨S_, .f32⟩
  | .hbm, ⟨62, _⟩ => ⟨S81920x256, .f32⟩
  | .hbm, ⟨63, _⟩ => ⟨S81920x256, .f32⟩
  | .hbm, ⟨64, _⟩ => ⟨S81920x256, .f32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S1x1024x256, .f32⟩
  | .hbm, ⟨88, _⟩ => ⟨S1024x256, .f32⟩
  | .hbm, ⟨89, _⟩ => ⟨S81920x256, .f32⟩
  | .hbm, ⟨90, _⟩ => ⟨S81920x256, .f32⟩
  | .hbm, ⟨91, _⟩ => ⟨S_, .i32⟩
  | .hbm, ⟨92, _⟩ => ⟨S81920, .i32⟩
  | .hbm, ⟨93, _⟩ => ⟨S81920, .i1⟩
  | .hbm, ⟨94, _⟩ => ⟨S81920, .i1⟩
  | .hbm, ⟨95, _⟩ => ⟨S81920x1, .i1⟩
  | .hbm, ⟨96, _⟩ => ⟨S_, .i32⟩
  | .hbm, ⟨97, _⟩ => ⟨S_, .i32⟩
  | .hbm, ⟨98, _⟩ => ⟨S_, .i1⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i1⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S_, .i1⟩
  | .hbm, ⟨113, _⟩ => ⟨S_, .i32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S_, .i32⟩
  | .hbm, ⟨118, _⟩ => ⟨S1x256x1024, .f32⟩
  | .hbm, ⟨119, _⟩ => ⟨S256x1024, .f32⟩
  | .hbm, ⟨120, _⟩ => ⟨S81920x1024, .f32⟩
  | .hbm, ⟨121, _⟩ => ⟨S81920x1024, .i1⟩
  | .hbm, ⟨122, _⟩ => ⟨S81920x1024, .f32⟩
  | .hbm, ⟨123, _⟩ => ⟨S_, .i32⟩
  | .hbm, ⟨124, _⟩ => ⟨S_, .i32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_c_0 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev main_v9_6 : Ref sig .tc := ⟨.hbm, 24, rfl⟩
abbrev main_v9_7 : Ref sig .tc := ⟨.hbm, 25, rfl⟩
abbrev main_v9_8 : Ref sig .tc := ⟨.hbm, 26, rfl⟩
abbrev main_while0c_c_9 : Ref sig .tc := ⟨.hbm, 27, rfl⟩
abbrev main_while0c_v10 : Ref sig .tc := ⟨.hbm, 28, rfl⟩
abbrev main_while0b_c_9 : Ref sig .tc := ⟨.hbm, 29, rfl⟩
abbrev main_while0b_v10 : Ref sig .tc := ⟨.hbm, 30, rfl⟩
abbrev main_while0b_v11 : Ref sig .tc := ⟨.hbm, 31, rfl⟩
abbrev main_while0b_c_10 : Ref sig .tc := ⟨.hbm, 32, rfl⟩
abbrev main_while0b_v12 : Ref sig .tc := ⟨.hbm, 33, rfl⟩
abbrev main_while0b_c_11 : Ref sig .tc := ⟨.hbm, 34, rfl⟩
abbrev main_while0b_v13 : Ref sig .tc := ⟨.hbm, 35, rfl⟩
abbrev main_while0b_v14 : Ref sig .tc := ⟨.hbm, 36, rfl⟩
abbrev main_while0b_c_12 : Ref sig .tc := ⟨.hbm, 37, rfl⟩
abbrev main_while0b_c_13 : Ref sig .tc := ⟨.hbm, 38, rfl⟩
abbrev main_while0b_v15 : Ref sig .tc := ⟨.hbm, 39, rfl⟩
abbrev main_while0b_c_14 : Ref sig .tc := ⟨.hbm, 40, rfl⟩
abbrev main_while0b_c_15 : Ref sig .tc := ⟨.hbm, 41, rfl⟩
abbrev main_while0b_v16 : Ref sig .tc := ⟨.hbm, 42, rfl⟩
abbrev main_while0b_c_16 : Ref sig .tc := ⟨.hbm, 43, rfl⟩
abbrev main_while0b_v17 : Ref sig .tc := ⟨.hbm, 44, rfl⟩
abbrev main_while0b_c_17 : Ref sig .tc := ⟨.hbm, 45, rfl⟩
abbrev main_while0b_c_18 : Ref sig .tc := ⟨.hbm, 46, rfl⟩
abbrev main_while0b_v18 : Ref sig .tc := ⟨.hbm, 47, rfl⟩
abbrev main_while0b_c_19 : Ref sig .tc := ⟨.hbm, 48, rfl⟩
abbrev main_while0b_c_20 : Ref sig .tc := ⟨.hbm, 49, rfl⟩
abbrev main_while0b_v19 : Ref sig .tc := ⟨.hbm, 50, rfl⟩
abbrev main_while0b_c_21 : Ref sig .tc := ⟨.hbm, 51, rfl⟩
abbrev main_while0b_v20 : Ref sig .tc := ⟨.hbm, 52, rfl⟩
abbrev main_while0b_v21 : Ref sig .tc := ⟨.hbm, 53, rfl⟩
abbrev main_while0b_v22 : Ref sig .tc := ⟨.hbm, 54, rfl⟩
abbrev main_while0b_v23 : Ref sig .tc := ⟨.hbm, 55, rfl⟩
abbrev main_while0b_call0_v0 : Ref sig .tc := ⟨.hbm, 56, rfl⟩
abbrev main_while0b_call0_v1 : Ref sig .tc := ⟨.hbm, 57, rfl⟩
abbrev main_while0b_call0_cst : Ref sig .tc := ⟨.hbm, 58, rfl⟩
abbrev main_while0b_call0_v2 : Ref sig .tc := ⟨.hbm, 59, rfl⟩
abbrev main_while0b_call0_v3 : Ref sig .tc := ⟨.hbm, 60, rfl⟩
abbrev main_while0b_call0_cst_0 : Ref sig .tc := ⟨.hbm, 61, rfl⟩
abbrev main_while0b_call0_v4 : Ref sig .tc := ⟨.hbm, 62, rfl⟩
abbrev main_while0b_call0_v5 : Ref sig .tc := ⟨.hbm, 63, rfl⟩
abbrev main_while0b_v24 : Ref sig .tc := ⟨.hbm, 64, rfl⟩
abbrev main_while0b_v25 : Ref sig .tc := ⟨.hbm, 65, rfl⟩
abbrev main_while0b_c_22 : Ref sig .tc := ⟨.hbm, 66, rfl⟩
abbrev main_while0b_v26 : Ref sig .tc := ⟨.hbm, 67, rfl⟩
abbrev main_while0b_c_23 : Ref sig .tc := ⟨.hbm, 68, rfl⟩
abbrev main_while0b_v27 : Ref sig .tc := ⟨.hbm, 69, rfl⟩
abbrev main_while0b_v28 : Ref sig .tc := ⟨.hbm, 70, rfl⟩
abbrev main_while0b_c_24 : Ref sig .tc := ⟨.hbm, 71, rfl⟩
abbrev main_while0b_c_25 : Ref sig .tc := ⟨.hbm, 72, rfl⟩
abbrev main_while0b_v29 : Ref sig .tc := ⟨.hbm, 73, rfl⟩
abbrev main_while0b_c_26 : Ref sig .tc := ⟨.hbm, 74, rfl⟩
abbrev main_while0b_c_27 : Ref sig .tc := ⟨.hbm, 75, rfl⟩
abbrev main_while0b_v30 : Ref sig .tc := ⟨.hbm, 76, rfl⟩
abbrev main_while0b_c_28 : Ref sig .tc := ⟨.hbm, 77, rfl⟩
abbrev main_while0b_v31 : Ref sig .tc := ⟨.hbm, 78, rfl⟩
abbrev main_while0b_c_29 : Ref sig .tc := ⟨.hbm, 79, rfl⟩
abbrev main_while0b_c_30 : Ref sig .tc := ⟨.hbm, 80, rfl⟩
abbrev main_while0b_v32 : Ref sig .tc := ⟨.hbm, 81, rfl⟩
abbrev main_while0b_c_31 : Ref sig .tc := ⟨.hbm, 82, rfl⟩
abbrev main_while0b_c_32 : Ref sig .tc := ⟨.hbm, 83, rfl⟩
abbrev main_while0b_v33 : Ref sig .tc := ⟨.hbm, 84, rfl⟩
abbrev main_while0b_c_33 : Ref sig .tc := ⟨.hbm, 85, rfl⟩
abbrev main_while0b_v34 : Ref sig .tc := ⟨.hbm, 86, rfl⟩
abbrev main_while0b_v35 : Ref sig .tc := ⟨.hbm, 87, rfl⟩
abbrev main_while0b_v36 : Ref sig .tc := ⟨.hbm, 88, rfl⟩
abbrev main_while0b_v37 : Ref sig .tc := ⟨.hbm, 89, rfl⟩
abbrev main_while0b_v38 : Ref sig .tc := ⟨.hbm, 90, rfl⟩
abbrev main_while0b_v39 : Ref sig .tc := ⟨.hbm, 91, rfl⟩
abbrev main_while0b_v40 : Ref sig .tc := ⟨.hbm, 92, rfl⟩
abbrev main_while0b_v41 : Ref sig .tc := ⟨.hbm, 93, rfl⟩
abbrev main_while0b_v42 : Ref sig .tc := ⟨.hbm, 94, rfl⟩
abbrev main_while0b_v43 : Ref sig .tc := ⟨.hbm, 95, rfl⟩
abbrev main_while0b_v44 : Ref sig .tc := ⟨.hbm, 96, rfl⟩
abbrev main_while0b_c_34 : Ref sig .tc := ⟨.hbm, 97, rfl⟩
abbrev main_while0b_v45 : Ref sig .tc := ⟨.hbm, 98, rfl⟩
abbrev main_while0b_c_35 : Ref sig .tc := ⟨.hbm, 99, rfl⟩
abbrev main_while0b_v46 : Ref sig .tc := ⟨.hbm, 100, rfl⟩
abbrev main_while0b_v47 : Ref sig .tc := ⟨.hbm, 101, rfl⟩
abbrev main_while0b_c_36 : Ref sig .tc := ⟨.hbm, 102, rfl⟩
abbrev main_while0b_c_37 : Ref sig .tc := ⟨.hbm, 103, rfl⟩
abbrev main_while0b_v48 : Ref sig .tc := ⟨.hbm, 104, rfl⟩
abbrev main_while0b_c_38 : Ref sig .tc := ⟨.hbm, 105, rfl⟩
abbrev main_while0b_c_39 : Ref sig .tc := ⟨.hbm, 106, rfl⟩
abbrev main_while0b_v49 : Ref sig .tc := ⟨.hbm, 107, rfl⟩
abbrev main_while0b_c_40 : Ref sig .tc := ⟨.hbm, 108, rfl⟩
abbrev main_while0b_v50 : Ref sig .tc := ⟨.hbm, 109, rfl⟩
abbrev main_while0b_c_41 : Ref sig .tc := ⟨.hbm, 110, rfl⟩
abbrev main_while0b_c_42 : Ref sig .tc := ⟨.hbm, 111, rfl⟩
abbrev main_while0b_v51 : Ref sig .tc := ⟨.hbm, 112, rfl⟩
abbrev main_while0b_c_43 : Ref sig .tc := ⟨.hbm, 113, rfl⟩
abbrev main_while0b_c_44 : Ref sig .tc := ⟨.hbm, 114, rfl⟩
abbrev main_while0b_v52 : Ref sig .tc := ⟨.hbm, 115, rfl⟩
abbrev main_while0b_c_45 : Ref sig .tc := ⟨.hbm, 116, rfl⟩
abbrev main_while0b_v53 : Ref sig .tc := ⟨.hbm, 117, rfl⟩
abbrev main_while0b_v54 : Ref sig .tc := ⟨.hbm, 118, rfl⟩
abbrev main_while0b_v55 : Ref sig .tc := ⟨.hbm, 119, rfl⟩
abbrev main_while0b_v56 : Ref sig .tc := ⟨.hbm, 120, rfl⟩
abbrev main_while0b_call1_v0 : Ref sig .tc := ⟨.hbm, 121, rfl⟩
abbrev main_while0b_v57 : Ref sig .tc := ⟨.hbm, 122, rfl⟩
abbrev main_while0b_c_46 : Ref sig .tc := ⟨.hbm, 123, rfl⟩
abbrev main_while0b_v58 : Ref sig .tc := ⟨.hbm, 124, rfl⟩

abbrev nD : Nat := 1
abbrev τ : Topo := Topo.v7x

variable {F : FTy → Type} [FloatOps F]

abbrev main_while0_count : Scf.Loop 32 := ⟨0#32, 32#32, 1#32⟩
-- ==== Proof.Ple.Gather.lean ====
/-
  The row gather of the last call: one trip issues two row transfers from the expert outputs `y` (its rows named by the
  two prefetched tables) into a two-plane buffer, all on one DMA semaphore; a drain loop waits for the rows one by one.
  Stated ONCE, over any buffer of the gather's shape and any semaphore: the four issue loops and the four drain loops
  of the kernel are instances of it.
-/
module

public import proofs.«01_k».proof.Proof.Gen.KernelIdeal.Skeleton
public import proofs.«01_k».proof.Proof.Gen.KernelIdeal.Launch
public import Idealize.ShloMosaic.Lib.Batch
public import Idealize.ShloMosaic.Lib.Ring
public import Idealize.ShloMosaic.Lib.Tactic
public import Idealize.ShloMosaic.Lib.ValueIdx
public import Idealize.ShloMosaic.Lib.Pipeline.Kit

@[expose] public section

set_option maxRecDepth 16384

noncomputable section

namespace Cert.Proof.Ple

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The resource algebra: the rounds library's for the pipeline's staging cells, beside the counters of the transfers'
    batches. -/
abbrev UU (nD : Nat) (τ : Topo) : Type := UR sig nD τ × Counters

local notation "𝕄" => MT nD τ sig Unit (Elt F) ℕ (UU nD τ) ℕ

/-- The batches' counters inside the resource algebra. -/
abbrev EC : UEmb Counters (MT nD τ sig Unit (Elt F) ℕ (UU nD τ) ℕ) := countersEmb (U := UU nD τ)

/-! ## The programs of a trip -/

/-- The row view of a gather buffer at offsets `d`. -/
abbrev rowView (bm : Memref sig .tc .vmem S2x512x1024 .f32) (d : Fin 3 → ℕ)
    (hd : ∀ a, d a + S1x1x1024.size a ≤ S2x512x1024.size a) : Memref sig .tc .vmem S1x1024 .f32 :=
  (bm.slice (Rect.unit (s := S2x512x1024) d S1x1x1024.size hd) (fun _ => rfl)).squeeze S1x1024 squeezes_S1x1x1024_S1x1024

/-- The row view of `y` at offsets `o`. -/
abbrev yView (ym : Memref sig .tc .hbm S81920x1024 .f32) (o : Fin 2 → ℕ)
    (ho : ∀ a, o a + S1x1024.size a ≤ S81920x1024.size a) : Memref sig .tc .hbm S1x1024 .f32 :=
  ym.slice (Rect.unit (s := S81920x1024) o S1x1024.size ho) (fun _ => rfl)

/-- One row transfer of a trip: the table's word, its check, the transfer of the row it names. -/
abbrev issueOne (bm : Memref sig .tc .vmem S2x512x1024 .f32) (cell : DmaSem sig) (ym : Memref sig .tc .hbm S81920x1024 .f32)
    (tm : Memref sig .tc .smem S32768 .i32) (o : Fin 1 → ℕ) (ho : ∀ a, o a + S1.size a ≤ S32768.size a)
    (d : Fin 3 → ℕ) (hd : ∀ a, d a + S1x1x1024.size a ≤ S2x512x1024.size a)
    (P : BitVec 32 → Prop) (dec : ∀ v, Decidable (P v)) (y : BitVec 32 → Fin 2 → ℕ)
    (hy : ∀ v, P v → ∀ a, y v a + S1x1024.size a ≤ S81920x1024.size a) : Prog (TpuEff nD τ sig (Elt F) Λ₀ .tc) PUnit := do
  let v : Elt F .i32 ← smemLoad tm (Rect.unit (s := S32768) o S1.size ho) numel1_S1 rfl
  have h : P v := (← Prog.lift (TpuEff.assume (P v) (dec v))).down
  Prog.lift (.enqueueDma (yView ym (y v) (hy v h)) (.here (rowView bm d hd)) (.dma cell) (View.wordExact_bits rfl) ((View.wordExact_bits rfl).reshape _ _) ⟨Or.inl rfl, trivial⟩)

/-- One wait of a drain: for one row of the buffer. -/
abbrev drainOne (bm : Memref sig .tc .vmem S2x512x1024 .f32) (cell : DmaSem sig) (ym : Memref sig .tc .hbm S81920x1024 .f32)
    (d : Fin 3 → ℕ) (hd : ∀ a, d a + S1x1x1024.size a ≤ S2x512x1024.size a) : Prog (TpuEff nD τ sig (Elt F) Λ₀ .tc) PUnit :=
  Prog.lift (.waitDma2 cell (yView ym ![0, 0] inb_S81920x1024_S1x1024_0_0) (rowView bm d hd) (View.wordExact_bits rfl) ((View.wordExact_bits rfl).reshape _ _))

/-- The gather's semaphore cell for buffer `b`. -/
abbrev cellA : DmaSem sig := ((cc0_scratch2.slice (Rect.unit (s := S2) ![0] S1.size inb_S2_S1_0)).squeeze S_ squeezes_S1_S_).sem
/-- The other buffer's. -/
abbrev cellB : DmaSem sig := ((cc0_scratch2.slice (Rect.unit (s := S2) ![1] S1.size inb_S2_S1_1)).squeeze S_ squeezes_S1_S_).sem

theorem cellA_eq : cellA = (12 : DmaSem sig) := by decide
theorem cellB_eq : cellB = (13 : DmaSem sig) := by decide

/-! ## What a transfer moves -/

/-- The table's word at entry `n` (the tables have 32768 entries). -/
def posAt (w : S32768.Idx → BitVec 32) (n : ℕ) : BitVec 32 := w (ix1 ⟨n % 32768, Nat.mod_lt _ (by decide)⟩)

/-- The row of `y` that the table names at entry `n`. -/
def rowAt (w : S32768.Idx → BitVec 32) (n : ℕ) : Fin 81920 := ⟨(posAt w n).toNat % 81920, Nat.mod_lt _ (by decide)⟩

/-- Transfer `t` of tile `T` reads the first table's entry `512 T + t / 2` when `t` is even, the second's when odd. -/
def rowOf (w1 w2 : S32768.Idx → BitVec 32) (T t : ℕ) : Fin 81920 := rowAt (if t % 2 = 0 then w1 else w2) (512 * T + t / 2)

/-- Where transfer `t` lands: plane `t % 2`, row `t / 2`. -/
def dOff (t : ℕ) : Fin 3 → ℕ := ![t % 2, t / 2, 0]

theorem dOff_inb (t : Fin 1024) : ∀ a, dOff t.val a + S1x1x1024.size a ≤ S2x512x1024.size a := by
  have := t.isLt; intro a; fin_cases a
  · show t.val % 2 + 1 ≤ 2; omega
  · show t.val / 2 + 1 ≤ 512; omega
  · show 0 + 1024 ≤ 1024; omega

def yOff (n : Fin 81920) : Fin 2 → ℕ := ![n.val, 0]

theorem yOff_inb (n : Fin 81920) : ∀ a, yOff n a + S1x1024.size a ≤ S81920x1024.size a := by
  have := n.isLt; intro a; fin_cases a
  · show n.val + 1 ≤ 81920; omega
  · show 0 + 1024 ≤ 1024; omega

/-- The gathered tile: plane 0 holds the rows the first table names, plane 1 the second's. -/
def tileVal (w1 w2 : S32768.Idx → BitVec 32) (Y : S81920x1024.Idx → Elt F .f32) (T : ℕ) : S2x512x1024.Idx → Elt F .f32 :=
  fun ix => Y (ix2 (rowAt (if (ix 0).val = 0 then w1 else w2) (512 * T + (ix 1).val)) (ix 2))

variable (c : Dev nD)

abbrev ym : Memref sig .tc .hbm S81920x1024 .f32 := Memref.whole main_arg9

/-- The elements transfer `t` lands on. -/
def rowSet (bm : Memref sig .tc .vmem S2x512x1024 .f32) (t : Fin 1024) : Finset (Idx (bm.view.loc (c : Thread nD τ))) :=
  (rowView bm (dOff t.val) (dOff_inb t)).view.set

/-- Row `n` of `y`. -/
def yRow (n : Fin 81920) : Finset S81920x1024.Idx := (yView ym (yOff n) (yOff_inb n)).view.set

/-- Row `n` of `y` under read token `t`. -/
abbrev yTok (w1 w2 : S32768.Idx → BitVec 32) (Y : S81920x1024.Idx → Elt F .f32) (T : ℕ) (t : Fin 1024) : sProp 𝕄 :=
  (ym).view.loc (c : Thread nD τ) ↦[yRow (rowOf w1 w2 T t.val)]{Transfers.shareTokN fullShare t.val} Y

/-- What transfer `t` delivers: its row of the buffer, at the gathered tile's contents, and its read token back. -/
def deliv (bm : Memref sig .tc .vmem S2x512x1024 .f32) (w1 w2 : S32768.Idx → BitVec 32) (Y : S81920x1024.Idx → Elt F .f32) (T : ℕ)
    (fs : Buf (Elt F) (bm.view.loc (c : Thread nD τ))) (t : Fin 1024) : sProp 𝕄 :=
  iprop((bm.view.loc (c : Thread nD τ) ↦[rowSet c bm t]{fullShare} fs) ∗ yTok c w1 w2 Y T t)

instance deliv_storable (bm : Memref sig .tc .vmem S2x512x1024 .f32) (w1 w2 : S32768.Idx → BitVec 32) (Y : S81920x1024.Idx → Elt F .f32) (T : ℕ)
    (fs : Buf (Elt F) (bm.view.loc (c : Thread nD τ))) (t : Fin 1024) : BI.Storable (upEmb : UEmb _ 𝕄) (deliv c bm w1 w2 Y T fs t) := by
  unfold deliv; infer_instance

/-- One row's credit on the cell. -/
def NN : ℕ := (cc0_scratch0 : Ref sig .tc).dmaCredit S1x1024 .f32

theorem NN_pos : 0 < NN := by decide

/-- The batch on `cell`: 1024 row transfers of tile `T`, `j` issued, `u` units consumed. -/
abbrev batch (bm : Memref sig .tc .vmem S2x512x1024 .f32) (cell : DmaSem sig) (w1 w2 : S32768.Idx → BitVec 32)
    (Y : S81920x1024.Idx → Elt F .f32) (T : ℕ) (fs : Buf (Elt F) (bm.view.loc (c : Thread nD τ))) (j u : ℕ) : sProp 𝕄 :=
  Transfers.Batch EC (c : Thread nD τ) (.dma cell) () NN (deliv c bm w1 w2 Y T fs) j u

/-- The row a transfer reads is the row of the gathered tile it lands on. -/
theorem row_read (bm : Memref sig .tc .vmem S2x512x1024 .f32) (w1 w2 : S32768.Idx → BitVec 32)
    (Y : S81920x1024.Idx → Elt F .f32) (T : ℕ) (fs : Buf (Elt F) (bm.view.loc (c : Thread nD τ)))
    (hfs : bm.view.read (Elt F) fs = tileVal w1 w2 Y T) (t : Fin 1024) :
    (rowView bm (dOff t.val) (dOff_inb t)).view.read (Elt F) fs
      = (yView ym (yOff (rowOf w1 w2 T t.val)) (yOff_inb _)).view.read (Elt F) Y := by
  have ht := t.isLt
  funext x
  show bm.view.read (Elt F) fs ((Rect.unit (s := S2x512x1024) (dOff t.val) S1x1x1024.size (dOff_inb t)).emb (Shape.reshapeEquiv _ x)) = Y _
  rw [hfs, Shape.reshapeEquiv_cons_one]
  unfold tileVal
  congr 1
  have e0 : (((Rect.unit (s := S2x512x1024) (dOff t.val) S1x1x1024.size (dOff_inb t)).emb (Fin.cons ⟨0, Nat.one_pos⟩ x)) 0).val = t.val % 2 := by
    rw [Rect.emb_apply]; show t.val % 2 + 1 * 0 = t.val % 2; omega
  have hx0 : (x 0).val = 0 := by have : (x 0).val < 1 := (x 0).isLt; omega
  have e1 : (((Rect.unit (s := S2x512x1024) (dOff t.val) S1x1x1024.size (dOff_inb t)).emb (Fin.cons ⟨0, Nat.one_pos⟩ x)) 1).val = t.val / 2 := by
    rw [Rect.emb_apply]; show t.val / 2 + 1 * (x 0).val = t.val / 2; omega
  rw [e0, e1]
  funext a
  apply Fin.ext
  fin_cases a
  · show (rowOf w1 w2 T t.val).val = (rowOf w1 w2 T t.val).val + 1 * (x 0).val; omega
  · show 0 + 1 * (x 1).val = 0 + 1 * (x 1).val; rfl

/-- So what has landed is the gathered tile's row. -/
theorem landed (bm : Memref sig .tc .vmem S2x512x1024 .f32) (w1 w2 : S32768.Idx → BitVec 32)
    (Y : S81920x1024.Idx → Elt F .f32) (T : ℕ) (fs : Buf (Elt F) (bm.view.loc (c : Thread nD τ)))
    (hfs : bm.view.read (Elt F) fs = tileVal w1 w2 Y T) (t : Fin 1024)
    (hd : ∀ a, dOff t.val a + S1x1x1024.size a ≤ S2x512x1024.size a)
    (hy : ∀ a, yOff (rowOf w1 w2 T t.val) a + S1x1024.size a ≤ S81920x1024.size a) (g : Buf (Elt F) (bm.view.loc (c : Thread nD τ))) :
    (bm.view.loc (c : Thread nD τ) ↦[rowSet c bm t]{fullShare} ((rowView bm (dOff t.val) hd).view.write (Elt F) g
          ((yView ym (yOff (rowOf w1 w2 T t.val)) hy).view.read (Elt F) Y) Finset.univ) : sProp 𝕄)
      = (bm.view.loc (c : Thread nD τ) ↦[rowSet c bm t]{fullShare} fs) := by
  refine pointsTo_congr fun i hi => ?_
  rw [← row_read c bm w1 w2 Y T fs hfs t, View.write_read_eq_piecewise]
  exact Finset.piecewise_eq_of_mem _ _ _ hi

/-! ## One transfer issued -/

theorem wp_issue (bm : Memref sig .tc .vmem S2x512x1024 .f32) (cell : DmaSem sig) (hcr : ∀ d hd, (rowView bm d hd).view.dmaCredit = NN)
    (w1 w2 : S32768.Idx → BitVec 32)
    (Y : S81920x1024.Idx → Elt F .f32) (T : ℕ) (fs : Buf (Elt F) (bm.view.loc (c : Thread nD τ)))
    (hfs : bm.view.read (Elt F) fs = tileVal w1 w2 Y T) (t : Fin 1024)
    {d : Fin 3 → ℕ} {hd : ∀ a, d a + S1x1x1024.size a ≤ S2x512x1024.size a} (hde : d = dOff t.val)
    {y : Fin 2 → ℕ} {hy : ∀ a, y a + S1x1024.size a ≤ S81920x1024.size a} (hye : y = yOff (rowOf w1 w2 T t.val))
    {h1 h2 h3} {α : Type} {kk : PUnit → Prog (TpuEff nD τ sig (Elt F) Λ₀ .tc) α} {Q : α → sProp 𝕄} :
    iprop(yTok c w1 w2 Y T t ∗ (∃ g, bm.view.loc (c : Thread nD τ) ↦[rowSet c bm t]{fullShare} g) ∗ batch c bm cell w1 w2 Y T fs t.val 0)
      ⊢ iprop((batch c bm cell w1 w2 Y T fs (t.val + 1) 0
            -∗ wp frame (wpE (defs₀ (F := F)) Variants.none (c : Thread nD τ) none) Set.univ (kk ⟨⟩) Q)
          -∗ wp frame (wpE (defs₀ (F := F)) Variants.none (c : Thread nD τ) none) Set.univ
            (.op (.enqueueDma (yView ym y hy) (.here (rowView bm d hd)) (.dma cell) h1 h2 h3) kk) Q) := by
  subst hde; subst hye
  iintro ⟨Hy, ⟨%g, Hb⟩, HB⟩
  iapply (Transfers.wp_dmaBatch EC Variants.none (c : Thread nD τ) none (D := deliv c bm w1 w2 Y T fs) (j := t.val) (u := 0)
    (src := yView ym (yOff (rowOf w1 w2 T t.val)) hy) (dst := rowView bm (dOff t.val) hd) (fs := Y) (fd := g)
    (q := Transfers.shareTokN fullShare t.val)
    (Sd := rowSet c bm t) (sm := .dma cell) () NN (hcr (dOff t.val) hd) (Finset.Subset.refl _) t.isLt (Nat.zero_le _) ?_) $$ [Hy Hb HB]
  · unfold deliv
    iintro ⟨Hd, Hs⟩
    isplitl [Hd]
    · iapply (Entails.of_eq (landed c bm w1 w2 Y T fs hfs t hd hy g))
      iexact Hd
    · iexact Hs
  · isplitl [Hy]; · iexact Hy
    isplitl [Hb]; · iexact Hb
    iexact HB

/-- One row transfer of a trip at the head of a program: the table's word read, its check discharged (the word names a
    row of `y`), the transfer issued as number `t` of the tile's batch. -/
theorem wp_issueOne (bm : Memref sig .tc .vmem S2x512x1024 .f32) (cell : DmaSem sig) (hcr : ∀ d hd, (rowView bm d hd).view.dmaCredit = NN)
    (w1 w2 : S32768.Idx → BitVec 32)
    (Y : S81920x1024.Idx → Elt F .f32) (T : ℕ) (hT : T < 64) (fs : Buf (Elt F) (bm.view.loc (c : Thread nD τ)))
    (hfs : bm.view.read (Elt F) fs = tileVal w1 w2 Y T) (t : Fin 1024)
    (tm : Memref sig .tc .smem S32768 .i32) (w : Buf (Elt F) (tm.view.loc (c : Thread nD τ)))
    (hw : tm.view.read (Elt F) w = if t.val % 2 = 0 then w1 else w2)
    (hlt : ∀ n, ((if t.val % 2 = 0 then w1 else w2) n).toNat < 81920)
    {o : Fin 1 → ℕ} {ho : ∀ a, o a + S1.size a ≤ S32768.size a} (hoe : o = ![512 * T + t.val / 2])
    {d : Fin 3 → ℕ} {hd : ∀ a, d a + S1x1x1024.size a ≤ S2x512x1024.size a} (hde : d = dOff t.val)
    {P : BitVec 32 → Prop} {dec : ∀ v, Decidable (P v)} (hP : ∀ v : BitVec 32, v.toNat < 81920 → P v)
    {y : BitVec 32 → Fin 2 → ℕ} {hy : ∀ v, P v → ∀ a, y v a + S1x1024.size a ≤ S81920x1024.size a}
    (hye : ∀ v, y v = ![v.toNat, 0])
    {α : Type} {kk : PUnit → Prog (TpuEff nD τ sig (Elt F) Λ₀ .tc) α} {Q : α → sProp 𝕄} :
    iprop((tm.view.loc (c : Thread nD τ) ↦{fullShare} w) ∗ yTok c w1 w2 Y T t
        ∗ (∃ g, bm.view.loc (c : Thread nD τ) ↦[rowSet c bm t]{fullShare} g) ∗ batch c bm cell w1 w2 Y T fs t.val 0)
      ⊢ iprop((((tm.view.loc (c : Thread nD τ) ↦{fullShare} w) -∗ batch c bm cell w1 w2 Y T fs (t.val + 1) 0
            -∗ wp frame (wpE (defs₀ (F := F)) Variants.none (c : Thread nD τ) none) Set.univ (kk ⟨⟩) Q))
          -∗ wp frame (wpE (defs₀ (F := F)) Variants.none (c : Thread nD τ) none) Set.univ
            (issueOne bm cell ym tm o ho d hd P dec y hy >>= kk) Q) := by
  subst hoe
  have ht := t.isLt
  iintro ⟨Hw, Hy, Hb, HB⟩ Hk
  unfold issueOne
  simp only [smemLoad, bind_assoc, Prog.bind_lift, smemLoadElt_bind, Prog.bind_op, Prog.bind_ret]
  iapply (wp_smemLoadElt_named Variants.none (c : Thread nD τ) none Set.univ) $$ Hw
  iintro Hw %v %hv
  have hv' : v = posAt (if t.val % 2 = 0 then w1 else w2) (512 * T + t.val / 2) := by
    rw [hv]
    show tm.view.read (Elt F) w _ = _
    rw [hw]; unfold posAt
    refine congrArg _ (funext fun a => Fin.ext ?_)
    fin_cases a
    show 512 * T + t.val / 2 + 1 * 0 = (512 * T + t.val / 2) % 32768
    omega
  have hvlt : v.toNat < 81920 := by rw [hv']; exact hlt _
  iapply (wp_assume Variants.none (c : Thread nD τ) none Set.univ (hP v hvlt))
  iapply (wp_issue c bm cell hcr w1 w2 Y T fs hfs t hde (by
    rw [hye]
    show (![v.toNat, 0] : Fin 2 → ℕ) = ![(posAt (if t.val % 2 = 0 then w1 else w2) (512 * T + t.val / 2)).toNat % 81920, 0]
    rw [← hv', Nat.mod_eq_of_lt hvlt])) $$ [Hy Hb HB]
  · isplitl [Hy]; · iexact Hy
    isplitl [Hb]; · iexact Hb
    iexact HB
  · iintro HB
    ihave Hk' := Hk $$ Hw
    iapply Hk'
    iexact HB

/-! ## The issue loop -/

abbrev t1m : Memref sig .tc .smem S32768 .i32 := Memref.whole main_arg0
abbrev t2m : Memref sig .tc .smem S32768 .i32 := Memref.whole main_arg1

/-- The two tables, held. -/
abbrev tables (w1 w2 : S32768.Idx → BitVec 32) : sProp 𝕄 :=
  iprop((t1m.view.loc (c : Thread nD τ) ↦{fullShare} (w1 : Buf (Elt F) (t1m.view.loc (c : Thread nD τ))))
    ∗ (t2m.view.loc (c : Thread nD τ) ↦{fullShare} (w2 : Buf (Elt F) (t2m.view.loc (c : Thread nD τ)))))

/-- Before trip `k` of an issue loop: the tables; `2k` transfers issued, nothing consumed; the rows and the read tokens
    from `2k` on still in hand. -/
def issueInv (bm : Memref sig .tc .vmem S2x512x1024 .f32) (cell : DmaSem sig) (w1 w2 : S32768.Idx → BitVec 32)
    (Y : S81920x1024.Idx → Elt F .f32) (T : ℕ) (fs : Buf (Elt F) (bm.view.loc (c : Thread nD τ))) (k : ℕ) (_ : Unit) : sProp 𝕄 :=
  iprop(tables c w1 w2 ∗ batch c bm cell w1 w2 Y T fs (2 * k) 0
    ∗ bigSep (Ring.rangeSet 1024 (2 * k) 1024) (fun t => iprop(∃ g, bm.view.loc (c : Thread nD τ) ↦[rowSet c bm t]{fullShare} g))
    ∗ bigSep (Ring.rangeSet 1024 (2 * k) 1024) (fun t => yTok c w1 w2 Y T t))

/-- One trip of an issue loop: two transfers, one row of each plane. -/
theorem gather_trip (bm : Memref sig .tc .vmem S2x512x1024 .f32) (cell : DmaSem sig) (hcr : ∀ d hd, (rowView bm d hd).view.dmaCredit = NN)
    (w1 w2 : S32768.Idx → BitVec 32) (hw1 : ∀ n, (w1 n).toNat < 81920) (hw2 : ∀ n, (w2 n).toNat < 81920)
    (Y : S81920x1024.Idx → Elt F .f32) (T : ℕ) (hT : T < 64) (fs : Buf (Elt F) (bm.view.loc (c : Thread nD τ)))
    (hfs : bm.view.read (Elt F) fs = tileVal w1 w2 Y T) (k : ℕ) (hk : k < 512)
    {o1 o2 : Fin 1 → ℕ} {ho1 : ∀ a, o1 a + S1.size a ≤ S32768.size a} {ho2 : ∀ a, o2 a + S1.size a ≤ S32768.size a}
    (hoe1 : o1 = ![512 * T + k]) (hoe2 : o2 = ![512 * T + k])
    {d1 d2 : Fin 3 → ℕ} {hd1 : ∀ a, d1 a + S1x1x1024.size a ≤ S2x512x1024.size a} {hd2 : ∀ a, d2 a + S1x1x1024.size a ≤ S2x512x1024.size a}
    (hde1 : d1 = ![0, k, 0]) (hde2 : d2 = ![1, k, 0])
    {P1 P2 : BitVec 32 → Prop} {dec1 : ∀ v, Decidable (P1 v)} {dec2 : ∀ v, Decidable (P2 v)}
    (hP1 : ∀ v : BitVec 32, v.toNat < 81920 → P1 v) (hP2 : ∀ v : BitVec 32, v.toNat < 81920 → P2 v)
    {y1 y2 : BitVec 32 → Fin 2 → ℕ} {hy1 : ∀ v, P1 v → ∀ a, y1 v a + S1x1024.size a ≤ S81920x1024.size a}
    {hy2 : ∀ v, P2 v → ∀ a, y2 v a + S1x1024.size a ≤ S81920x1024.size a}
    (hye1 : ∀ v, y1 v = ![v.toNat, 0]) (hye2 : ∀ v, y2 v = ![v.toNat, 0]) (acc acc' : Unit) :
    issueInv c bm cell w1 w2 Y T fs k acc
      ⊢ wp frame (wpE (defs₀ (F := F)) Variants.none (c : Thread nD τ) none) Set.univ
          (issueOne bm cell ym t1m o1 ho1 d1 hd1 P1 dec1 y1 hy1 >>= fun _ =>
            issueOne bm cell ym t2m o2 ho2 d2 hd2 P2 dec2 y2 hy2 >>= fun _ => pure acc')
          (issueInv c bm cell w1 w2 Y T fs (k + 1)) := by
  have m0 : (2 * k) % 2 = 0 := by omega
  have m1 : (2 * k + 1) % 2 = 1 := by omega
  have q0 : (2 * k) / 2 = k := by omega
  have q1 : (2 * k + 1) / 2 = k := by omega
  unfold issueInv
  rw [Ring.bigSep_rangeSet_head (lo := 2 * k) (by omega) (by omega), Ring.bigSep_rangeSet_head (lo := 2 * k + 1) (by omega) (by omega),
    Ring.bigSep_rangeSet_head (Φ := fun t => yTok c w1 w2 Y T t) (lo := 2 * k) (by omega) (by omega),
    Ring.bigSep_rangeSet_head (Φ := fun t => yTok c w1 w2 Y T t) (lo := 2 * k + 1) (by omega) (by omega),
    show 2 * (k + 1) = 2 * k + 1 + 1 by omega]
  iintro ⟨⟨H1, H2⟩, HB, ⟨Hb0, Hb1, Hbs⟩, Hy0, Hy1, Hys⟩
  iapply (wp_issueOne c bm cell hcr w1 w2 Y T hT fs hfs ⟨2 * k, by omega⟩ t1m w1
    (by dsimp only; rw [if_pos m0]; rfl) (by dsimp only; rw [if_pos m0]; exact hw1)
    (by rw [hoe1]; dsimp only; rw [q0]) (by rw [hde1]; unfold dOff; dsimp only; rw [m0, q0]) hP1 hye1) $$ [H1 Hy0 Hb0 HB]
  · isplitl [H1]; · iexact H1
    isplitl [Hy0]; · iexact Hy0
    isplitl [Hb0]; · iexact Hb0
    iexact HB
  iintro H1 HB
  iapply (wp_issueOne c bm cell hcr w1 w2 Y T hT fs hfs ⟨2 * k + 1, by omega⟩ t2m w2
    (by dsimp only; rw [if_neg (by omega)]; rfl) (by dsimp only; rw [if_neg (by omega)]; exact hw2)
    (by rw [hoe2]; dsimp only; rw [q1]) (by rw [hde2]; unfold dOff; dsimp only; rw [m1, q1]) hP2 hye2) $$ [H2 Hy1 Hb1 HB]
  · isplitl [H2]; · iexact H2
    isplitl [Hy1]; · iexact Hy1
    isplitl [Hb1]; · iexact Hb1
    iexact HB
  iintro H2 HB
  rw [Prog.pure_eq_ret, wp_ret]
  imodintro
  isplitl [H1 H2]
  · isplitl [H1]; · iexact H1
    iexact H2
  isplitl [HB]; · iexact HB
  isplitl [Hbs]; · iexact Hbs
  iexact Hys

/-! ## The drain loop -/

/-- Before trip `k` of a drain loop: the waits so far recorded, and either (before the last trip has run) the batch with
    the units of `2k` rows consumed, or (after it) the cell back at zero and every delivery. -/
def drainInv (bm : Memref sig .tc .vmem S2x512x1024 .f32) (cell : DmaSem sig) (w1 w2 : S32768.Idx → BitVec 32)
    (Y : S81920x1024.Idx → Elt F .f32) (T : ℕ) (fs : Buf (Elt F) (bm.view.loc (c : Thread nD τ))) (k : ℕ) (_ : Unit) : sProp 𝕄 :=
  iprop((∃ W, owes (c : Thread nD τ) 0 W)
    ∗ (if k < 512 then batch c bm cell w1 w2 Y T fs 1024 (2 * k * NN)
       else iprop(semVal ((c : Thread nD τ), SemLoc.dma cell) 0 ∗ bigSep Finset.univ (deliv c bm w1 w2 Y T fs))))

/-- One trip of a drain loop: two rows' waits; the second of the last trip hands everything back. -/
theorem drain_trip (bm : Memref sig .tc .vmem S2x512x1024 .f32) (cell : DmaSem sig) (hcr : ∀ d hd, (rowView bm d hd).view.dmaCredit = NN)
    (w1 w2 : S32768.Idx → BitVec 32)
    (Y : S81920x1024.Idx → Elt F .f32) (T : ℕ) (fs : Buf (Elt F) (bm.view.loc (c : Thread nD τ))) (k : ℕ) (hk : k < 512)
    {d1 d2 : Fin 3 → ℕ} {hd1 : ∀ a, d1 a + S1x1x1024.size a ≤ S2x512x1024.size a} {hd2 : ∀ a, d2 a + S1x1x1024.size a ≤ S2x512x1024.size a}
    (acc acc' : Unit) :
    drainInv c bm cell w1 w2 Y T fs k acc
      ⊢ wp frame (wpE (defs₀ (F := F)) Variants.none (c : Thread nD τ) none) Set.univ
          (drainOne bm cell ym d1 hd1 >>= fun _ => drainOne bm cell ym d2 hd2 >>= fun _ => pure acc')
          (drainInv c bm cell w1 w2 Y T fs (k + 1)) := by
  have hN := NN_pos
  have a1 : 2 * k * NN + NN < NN * 1024 := by
    have : (2 * k + 1) * NN < 1024 * NN := Nat.mul_lt_mul_of_pos_right (by omega) hN
    linarith
  unfold drainInv
  rw [if_pos hk]
  simp only [Prog.bind_lift, Prog.pure_eq_ret]
  iintro ⟨⟨%W, HO⟩, HB⟩
  iapply (Transfers.wp_waitBatch EC Variants.none (c : Thread nD τ) none () (hcr d1 hd1) (u := 2 * k * NN) (D := deliv c bm w1 w2 Y T fs)
    a1) $$ [HB HO]
  · isplitl [HB]; · iexact HB
    iexact HO
  iintro ⟨HB, HO⟩
  rcases Nat.lt_or_ge (k + 1) 512 with h1 | h1
  · rw [if_pos h1]
    have a2 : 2 * k * NN + NN + NN < NN * 1024 := by
      have : (2 * k + 2) * NN < 1024 * NN := Nat.mul_lt_mul_of_pos_right (by omega) hN
      linarith
    iapply (Transfers.wp_waitBatch EC Variants.none (c : Thread nD τ) none () (hcr d2 hd2) (u := 2 * k * NN + NN) (D := deliv c bm w1 w2 Y T fs)
      a2) $$ [HB HO]
    · isplitl [HB]; · iexact HB
      iexact HO
    iintro ⟨HB, HO⟩
    rw [wp_ret]
    imodintro
    isplitl [HO]; · iexists _; iexact HO
    rw [show 2 * (k + 1) * NN = 2 * k * NN + NN + NN by ring]
    iexact HB
  · rw [if_neg (Nat.not_lt.mpr h1)]
    have hk' : k = 511 := by omega
    iapply (Transfers.wp_waitBatchLast EC Variants.none (c : Thread nD τ) none () (hcr d2 hd2) NN_pos (u := 2 * k * NN + NN) (D := deliv c bm w1 w2 Y T fs)
      (by rw [hk']; ring)) $$ [HB HO]
    · isplitl [HB]; · iexact HB
      iexact HO
    iintro ⟨HD, Hc, HO⟩
    rw [wp_ret]
    imodintro
    isplitl [HO]; · iexists _; iexact HO
    isplitl [Hc]; · iexact Hc
    iexact HD

end Cert.Proof.Ple
-- ==== Proof.Ple.Trips.lean ====
/-
  The kernel's seven counted loops are the gather's issue and drain loops: the trips of each, unfolded, and their
  invariants; the buffer and `y` cut into the rows the transfers move, and put together again.
-/
module

public import proofs.«01_k».proof.Proof.Ple.Gather

@[expose] public section

set_option maxRecDepth 16384

noncomputable section

namespace Cert.Proof.Ple

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

/-- The two gather buffers. -/
abbrev bA : Memref sig .tc .vmem S2x512x1024 .f32 := Memref.whole cc0_scratch0
abbrev bB : Memref sig .tc .vmem S2x512x1024 .f32 := Memref.whole cc0_scratch1

theorem crA : ∀ d hd, (rowView bA d hd).view.dmaCredit = NN := fun _ _ => rfl
theorem crB : ∀ d hd, (rowView bB d hd).view.dmaCredit = NN := fun _ _ => rfl

theorem trips1 : k0_t1_loop.trips = 512 := by decide
theorem trips2 : k0_t2_loop.trips = 512 := by decide
theorem trips3 : k0_t3_loop.trips = 512 := by decide
theorem trips5 : k0_t5_loop.trips = 512 := by decide
theorem trips6 : k0_t6_loop.trips = 512 := by decide
theorem trips7 : k0_t7_loop.trips = 512 := by decide

variable (c : Dev nD) (w1 w2 : S32768.Idx → BitVec 32) (hw1 : ∀ n, (w1 n).toNat < 81920) (hw2 : ∀ n, (w2 n).toNat < 81920)
  (Y : S81920x1024.Idx → Elt F .f32)

section Bodies

variable (i : grid0.Coords) (arg3 : Memref sig .tc .vmem S512x1024 .f32) (harg3 : arg3.IsWhole) (arg4 : Memref sig .tc .vmem S512x128 .f32) (harg4 : arg4.IsWhole)
  (arg5 : Memref sig .tc .vmem S512x256 .f32) (harg5 : arg5.IsWhole) (arg6 : Memref sig .tc .vmem S1x1024 .f32) (harg6 : arg6.IsWhole)
  (arg7 : Memref sig .tc .vmem S1024x1024 .bf16) (harg7 : arg7.IsWhole) (arg8 : Memref sig .tc .vmem S256x1024 .bf16) (harg8 : arg8.IsWhole)
  (arg9 : Memref sig .tc .vmem S1x1024 .f32) (harg9 : arg9.IsWhole) (arg11 : Memref sig .tc .vmem S512x1024 .f32) (harg11 : arg11.IsWhole)
  (hm0 : t1m.IsWhole) (hm1 : t2m.IsWhole) (hm9 : ym.IsWhole) (hA : bA.IsWhole) (hB : bB.IsWhole) (arg0 : BitVec 32)

include hw1 hw2 in
/-- The first tile's gather (into the even buffer). -/
theorem t1_trip (h1 : k0_cond1 i = 1#1) (hi : (i 0).val < 64) (k : Fin k0_t1_loop.trips) (acc : Unit) :
    issueInv c bA cellA w1 w2 Y (i 0).val (tileVal w1 w2 Y (i 0).val) k.val acc
      ⊢ wp frame (wpE (defs₀ (F := F)) Variants.none (c : Thread nD τ) none) Set.univ
          (k0_t1_body i t1m hm0 t2m hm1 arg3 harg3 arg4 harg4 arg5 harg5 arg6 harg6 arg7 harg7 arg8 harg8 arg9 harg9 ym hm9 arg11 harg11 bA hA bB hB cc0_scratch2 h1 k acc)
          (issueInv c bA cellA w1 w2 Y (i 0).val (tileVal w1 w2 Y (i 0).val) (k.val + 1)) := by
  have hk : k.val < 512 := k.isLt.trans_eq trips1
  exact gather_trip c bA cellA crA w1 w2 hw1 hw2 Y (i 0).val hi (tileVal w1 w2 Y (i 0).val) rfl k.val hk
    (ho1 := k0_off1_inb i k h1) (ho2 := k0_off4_inb i k h1) (k0_off1_eq i k) (k0_off4_eq i k)
    (hd1 := k0_off2_inb i k h1) (hd2 := k0_off5_inb i k h1) (k0_off2_eq k) (k0_off5_eq k)
    (P1 := k0_chk1 i) (P2 := k0_chk2 i) (dec1 := k0_chk1.dec i) (dec2 := k0_chk2.dec i)
    (fun v hv _ => yOff_inb ⟨v.toNat, hv⟩) (fun v hv _ => yOff_inb ⟨v.toNat, hv⟩)
    (y1 := k0_off3) (y2 := k0_off6) (hy1 := fun v h => k0_off3_inb i v h h1) (hy2 := fun v h => k0_off6_inb i v h h1)
    (fun _ => rfl) (fun _ => rfl) acc ⟨⟩

include hw1 hw2 in
/-- The next tile's gather at an even point (into the odd buffer). -/
theorem t3_trip (h1 : k0_cond2 i = 1#1) (hi : (i 0).val + 1 < 64) (k : Fin k0_t3_loop.trips) (acc : Unit) :
    issueInv c bB cellB w1 w2 Y ((i 0).val + 1) (tileVal w1 w2 Y ((i 0).val + 1)) k.val acc
      ⊢ wp frame (wpE (defs₀ (F := F)) Variants.none (c : Thread nD τ) none) Set.univ
          (k0_t3_body i t1m hm0 t2m hm1 arg3 harg3 arg4 harg4 arg5 harg5 arg6 harg6 arg7 harg7 arg8 harg8 arg9 harg9 ym hm9 arg11 harg11 bA hA bB hB cc0_scratch2 arg0 h1 k acc)
          (issueInv c bB cellB w1 w2 Y ((i 0).val + 1) (tileVal w1 w2 Y ((i 0).val + 1)) (k.val + 1)) := by
  have hk : k.val < 512 := k.isLt.trans_eq trips3
  have e : 512 * (i 0).val + k.val + 512 = 512 * ((i 0).val + 1) + k.val := by omega
  exact gather_trip c bB cellB crB w1 w2 hw1 hw2 Y ((i 0).val + 1) hi (tileVal w1 w2 Y ((i 0).val + 1)) rfl k.val hk
    (ho1 := k0_off9_inb i k h1) (ho2 := k0_off12_inb i k h1) (by rw [k0_off9_eq, e]) (by rw [k0_off12_eq, e])
    (hd1 := k0_off10_inb i k h1) (hd2 := k0_off13_inb i k h1) (k0_off10_eq k) (k0_off13_eq k)
    (P1 := k0_chk3 i) (P2 := k0_chk4 i) (dec1 := k0_chk3.dec i) (dec2 := k0_chk4.dec i)
    (fun v hv _ => yOff_inb ⟨v.toNat, hv⟩) (fun v hv _ => yOff_inb ⟨v.toNat, hv⟩)
    (y1 := k0_off11) (y2 := k0_off14) (hy1 := fun v h => k0_off11_inb i v h h1) (hy2 := fun v h => k0_off14_inb i v h h1)
    (fun _ => rfl) (fun _ => rfl) acc ⟨⟩

include hw1 hw2 in
/-- The next tile's gather at an odd point (into the even buffer). -/
theorem t6_trip (h1 : k0_cond4 i = 1#1) (hi : (i 0).val + 1 < 64) (k : Fin k0_t6_loop.trips) (acc : Unit) :
    issueInv c bA cellA w1 w2 Y ((i 0).val + 1) (tileVal w1 w2 Y ((i 0).val + 1)) k.val acc
      ⊢ wp frame (wpE (defs₀ (F := F)) Variants.none (c : Thread nD τ) none) Set.univ
          (k0_t6_body i t1m hm0 t2m hm1 arg3 harg3 arg4 harg4 arg5 harg5 arg6 harg6 arg7 harg7 arg8 harg8 arg9 harg9 ym hm9 arg11 harg11 bA hA bB hB cc0_scratch2 arg0 h1 k acc)
          (issueInv c bA cellA w1 w2 Y ((i 0).val + 1) (tileVal w1 w2 Y ((i 0).val + 1)) (k.val + 1)) := by
  have hk : k.val < 512 := k.isLt.trans_eq trips6
  have e : 512 * (i 0).val + k.val + 512 = 512 * ((i 0).val + 1) + k.val := by omega
  exact gather_trip c bA cellA crA w1 w2 hw1 hw2 Y ((i 0).val + 1) hi (tileVal w1 w2 Y ((i 0).val + 1)) rfl k.val hk
    (ho1 := k0_off19_inb i k h1) (ho2 := k0_off22_inb i k h1) (by rw [k0_off19_eq, e]) (by rw [k0_off22_eq, e])
    (hd1 := k0_off20_inb i k h1) (hd2 := k0_off23_inb i k h1) (k0_off20_eq k) (k0_off23_eq k)
    (P1 := k0_chk5 i) (P2 := k0_chk6 i) (dec1 := k0_chk5.dec i) (dec2 := k0_chk6.dec i)
    (fun v hv _ => yOff_inb ⟨v.toNat, hv⟩) (fun v hv _ => yOff_inb ⟨v.toNat, hv⟩)
    (y1 := k0_off21) (y2 := k0_off24) (hy1 := fun v h => k0_off21_inb i v h h1) (hy2 := fun v h => k0_off24_inb i v h h1)
    (fun _ => rfl) (fun _ => rfl) acc ⟨⟩

/-- The drain at an even point. -/
theorem t2_trip (h1 : k0_cond2 i = 1#1) (T : ℕ) (k : Fin k0_t2_loop.trips) (acc : Unit) :
    drainInv c bA cellA w1 w2 Y T (tileVal w1 w2 Y T) k.val acc
      ⊢ wp frame (wpE (defs₀ (F := F)) Variants.none (c : Thread nD τ) none) Set.univ
          (k0_t2_body i t1m hm0 t2m hm1 arg3 harg3 arg4 harg4 arg5 harg5 arg6 harg6 arg7 harg7 arg8 harg8 arg9 harg9 ym hm9 arg11 harg11 bA hA bB hB cc0_scratch2 arg0 h1 k acc)
          (drainInv c bA cellA w1 w2 Y T (tileVal w1 w2 Y T) (k.val + 1)) := by
  have hk : k.val < 512 := k.isLt.trans_eq trips2
  exact drain_trip c bA cellA crA w1 w2 Y T (tileVal w1 w2 Y T) k.val hk
    (hd1 := k0_off7_inb i k h1) (hd2 := k0_off8_inb i k h1) acc ⟨⟩

/-- The drain at an odd point. -/
theorem t5_trip (h1 : k0_cond4 i = 1#1) (T : ℕ) (k : Fin k0_t5_loop.trips) (acc : Unit) :
    drainInv c bB cellB w1 w2 Y T (tileVal w1 w2 Y T) k.val acc
      ⊢ wp frame (wpE (defs₀ (F := F)) Variants.none (c : Thread nD τ) none) Set.univ
          (k0_t5_body i t1m hm0 t2m hm1 arg3 harg3 arg4 harg4 arg5 harg5 arg6 harg6 arg7 harg7 arg8 harg8 arg9 harg9 ym hm9 arg11 harg11 bA hA bB hB cc0_scratch2 arg0 h1 k acc)
          (drainInv c bB cellB w1 w2 Y T (tileVal w1 w2 Y T) (k.val + 1)) := by
  have hk : k.val < 512 := k.isLt.trans_eq trips5
  exact drain_trip c bB cellB crB w1 w2 Y T (tileVal w1 w2 Y T) k.val hk
    (hd1 := k0_off17_inb i k h1) (hd2 := k0_off18_inb i k h1) acc ⟨⟩

/-- The drain at the last point. -/
theorem t7_trip (h1 : k0_cond5 i = 1#1) (T : ℕ) (k : Fin k0_t7_loop.trips) (acc : Unit) :
    drainInv c bB cellB w1 w2 Y T (tileVal w1 w2 Y T) k.val acc
      ⊢ wp frame (wpE (defs₀ (F := F)) Variants.none (c : Thread nD τ) none) Set.univ
          (k0_t7_body i t1m hm0 t2m hm1 arg3 harg3 arg4 harg4 arg5 harg5 arg6 harg6 arg7 harg7 arg8 harg8 arg9 harg9 ym hm9 arg11 harg11 bA hA bB hB cc0_scratch2 h1 k acc)
          (drainInv c bB cellB w1 w2 Y T (tileVal w1 w2 Y T) (k.val + 1)) := by
  have hk : k.val < 512 := k.isLt.trans_eq trips7
  exact drain_trip c bB cellB crB w1 w2 Y T (tileVal w1 w2 Y T) k.val hk
    (hd1 := k0_off25_inb i k h1) (hd2 := k0_off26_inb i k h1) acc ⟨⟩

end Bodies

/-! ## The buffer and `y` in rows -/

theorem mem_rowSet (bm : Memref sig .tc .vmem S2x512x1024 .f32) (t : Fin 1024) (x : S2x512x1024.Idx) :
    bm.view.emb x ∈ rowSet c bm t ↔ (x 0).val = t.val % 2 ∧ (x 1).val = t.val / 2 := by
  have ht := t.isLt
  unfold rowSet
  have e : (rowView bm (dOff t.val) (dOff_inb t)).view.set
      = (Rect.unit (s := S2x512x1024) (dOff t.val) S1x1x1024.size (dOff_inb t)).set.map bm.view.emb :=
    (View.set_reshape _ _).trans (View.set_slice _ _)
  rw [e, Finset.mem_map' bm.view.emb, Rect.mem_set_unit]
  have h2 : (x 2).val < 1024 := (x 2).isLt
  constructor
  · intro H
    have a0 : t.val % 2 ≤ (x 0).val ∧ (x 0).val < t.val % 2 + 1 := H 0
    have a1 : t.val / 2 ≤ (x 1).val ∧ (x 1).val < t.val / 2 + 1 := H 1
    omega
  · intro H a
    fin_cases a
    · show t.val % 2 ≤ (x 0).val ∧ (x 0).val < t.val % 2 + 1; omega
    · show t.val / 2 ≤ (x 1).val ∧ (x 1).val < t.val / 2 + 1; omega
    · show 0 ≤ (x 2).val ∧ (x 2).val < 0 + 1024; omega

theorem rowSet_disjoint (bm : Memref sig .tc .vmem S2x512x1024 .f32) (hu : bm.view.set = Finset.univ) :
    ∀ t t' : Fin 1024, t ≠ t' → Disjoint (rowSet c bm t) (rowSet c bm t') := fun t t' hne => by
  rw [Finset.disjoint_left]
  intro y hy hy'
  have hm : y ∈ bm.view.set := by rw [hu]; exact Finset.mem_univ _
  obtain ⟨x, -, rfl⟩ := Finset.mem_map.mp hm
  rw [mem_rowSet] at hy hy'
  exact hne (Fin.ext (by omega))

theorem rowSet_cover (bm : Memref sig .tc .vmem S2x512x1024 .f32) (hu : bm.view.set = Finset.univ) :
    Finset.univ.biUnion (rowSet c bm) = Finset.univ := by
  ext y
  simp only [Finset.mem_biUnion, Finset.mem_univ, true_and, iff_true]
  have hm : y ∈ bm.view.set := by rw [hu]; exact Finset.mem_univ _
  obtain ⟨x, -, rfl⟩ := Finset.mem_map.mp hm
  have h0 : (x 0).val < 2 := (x 0).isLt
  have h1 : (x 1).val < 512 := (x 1).isLt
  refine ⟨⟨2 * (x 1).val + (x 0).val, by omega⟩, (mem_rowSet c bm _ x).mpr ?_⟩
  dsimp only
  omega

theorem some_row (bm : Memref sig .tc .vmem S2x512x1024 .f32) (t : Fin 1024) (g : Buf (Elt F) (bm.view.loc (c : Thread nD τ))) :
    (bm.view.loc (c : Thread nD τ) ↦[rowSet c bm t]{fullShare} g)
      ⊢ (iprop(∃ g, bm.view.loc (c : Thread nD τ) ↦[rowSet c bm t]{fullShare} g) : sProp 𝕄) := by
  iintro H; iexists g; iexact H

/-- A buffer held whole at some contents is its rows, each at some contents. -/
theorem buf_rows (bm : Memref sig .tc .vmem S2x512x1024 .f32) (hu : bm.view.set = Finset.univ) :
    iprop(∃ g, bm.view.loc (c : Thread nD τ) ↦{fullShare} g)
      ⊢ (bigSep Finset.univ fun t => iprop(∃ g, bm.view.loc (c : Thread nD τ) ↦[rowSet c bm t]{fullShare} g) : sProp 𝕄) := by
  iintro ⟨%g, H⟩
  iapply (show (bm.view.loc (c : Thread nD τ) ↦{fullShare} g : sProp 𝕄)
    ⊢ bigSep Finset.univ fun t => iprop(∃ g, bm.view.loc (c : Thread nD τ) ↦[rowSet c bm t]{fullShare} g) from
      (Entails.of_eq (Ring.pointsTo_blocks (rowSet c bm) (rowSet_disjoint c bm hu) (rowSet_cover c bm hu) g)).trans
        (BI.bigSep_mono fun t _ => some_row c bm t g))
  iexact H

/-- What stays of `y` while the transfers of tile `T` are in flight: the share beyond the read tokens, and each token's
    other rows. -/
def yRest (T : ℕ) : sProp 𝕄 :=
  iprop((ym.view.loc (c : Thread nD τ) ↦[Finset.univ]{Transfers.shareDrop fullShare 1024} Y)
    ∗ bigSep Finset.univ fun t : Fin 1024 =>
        (ym.view.loc (c : Thread nD τ) ↦[Finset.univ \ yRow (rowOf w1 w2 T t.val)]{Transfers.shareTokN fullShare t.val} Y))

theorem range_univ (Φ : ℕ → sProp 𝕄) : bigSep (Finset.range 1024) Φ = bigSep Finset.univ fun t : Fin 1024 => Φ t.val := by
  rw [← Ring.rangeSet_univ]
  exact (Ring.bigSep_rangeSet_eq_range (NB := 1024) (lo := 0) (hi := 1024) (Φ := fun t : Fin 1024 => Φ t.val) le_rfl Φ
    (fun k hk => by show Φ k = Φ (0 + k); rw [Nat.zero_add])).symm

/-- `y` held whole is the read tokens' rows and the rest. -/
theorem y_rows (T : ℕ) : (ym.view.loc (c : Thread nD τ) ↦{fullShare} Y : sProp 𝕄)
    ⊣⊢ iprop(yRest c w1 w2 Y T ∗ bigSep Finset.univ (fun t => yTok c w1 w2 Y T t)) := by
  have hs (t : Fin 1024) : (ym.view.loc (c : Thread nD τ) ↦[Finset.univ]{Transfers.shareTokN fullShare t.val} Y : sProp 𝕄)
      ⊣⊢ iprop(yTok c w1 w2 Y T t ∗ (ym.view.loc (c : Thread nD τ) ↦[Finset.univ \ yRow (rowOf w1 w2 T t.val)]{Transfers.shareTokN fullShare t.val} Y)) :=
    pointsTo_split_subset (Finset.subset_univ _)
  have ht : (ym.view.loc (c : Thread nD τ) ↦[Finset.univ]{fullShare} Y : sProp 𝕄)
      ⊣⊢ iprop((ym.view.loc (c : Thread nD τ) ↦[Finset.univ]{Transfers.shareDrop fullShare 1024} Y)
        ∗ BI.bigSep (Finset.range 1024) (fun i => ym.view.loc (c : Thread nD τ) ↦[Finset.univ]{Transfers.shareTokN fullShare i} Y)) :=
    Transfers.pointsTo_toks_range fullShare 1024
  rw [range_univ] at ht
  have hm : (BI.bigSep Finset.univ fun t : Fin 1024 => (ym.view.loc (c : Thread nD τ) ↦[Finset.univ]{Transfers.shareTokN fullShare t.val} Y) : sProp 𝕄)
      = iprop(BI.bigSep Finset.univ (fun t => yTok c w1 w2 Y T t)
        ∗ BI.bigSep Finset.univ fun t : Fin 1024 =>
          (ym.view.loc (c : Thread nD τ) ↦[Finset.univ \ yRow (rowOf w1 w2 T t.val)]{Transfers.shareTokN fullShare t.val} Y)) :=
    (BI.bigSep_congr fun t _ => BI.Entails.antisymm (hs t).1 (hs t).2).trans (BI.bigSep_sep _ _ _)
  rw [hm] at ht
  constructor
  · refine ht.1.trans ?_
    iintro ⟨H0, Ht⟩
    icases Ht with ⟨Ht1, Ht2⟩
    isplitl [H0 Ht2]
    · unfold yRest
      isplitl [H0]; · iexact H0
      iexact Ht2
    iexact Ht1
  · refine BIBase.Entails.trans ?_ ht.2
    unfold yRest
    iintro ⟨⟨H0, Ht2⟩, Ht1⟩
    isplitl [H0]; · iexact H0
    isplitl [Ht1]; · iexact Ht1
    iexact Ht2

/-- Tile `T`'s transfers all in flight on `cell` into `bm`, and what is left of `y`. -/
def flight (bm : Memref sig .tc .vmem S2x512x1024 .f32) (cell : DmaSem sig) (T : ℕ) (fs : Buf (Elt F) (bm.view.loc (c : Thread nD τ))) : sProp 𝕄 :=
  iprop(batch c bm cell w1 w2 Y T fs 1024 0 ∗ yRest c w1 w2 Y T)

/-- A gather begins: from the cell at zero, the buffer and `y` whole. -/
theorem gather_entry (bm : Memref sig .tc .vmem S2x512x1024 .f32) (hu : bm.view.set = Finset.univ) (cell : DmaSem sig) (T : ℕ)
    (fs : Buf (Elt F) (bm.view.loc (c : Thread nD τ))) (acc : Unit) :
    iprop(tables c w1 w2 ∗ semVal ((c : Thread nD τ), SemLoc.dma cell) 0 ∗ (∃ g, bm.view.loc (c : Thread nD τ) ↦{fullShare} g)
        ∗ (ym.view.loc (c : Thread nD τ) ↦{fullShare} Y))
      ⊢ (iprop(|={Set.univ}=> (issueInv c bm cell w1 w2 Y T fs 0 acc ∗ yRest c w1 w2 Y T)) : sProp 𝕄) := by
  iintro ⟨Ht, Hc, Hb, Hy⟩
  ihave Hb' := (buf_rows c bm hu) $$ Hb
  ihave Hy' := (y_rows c w1 w2 Y T).1 $$ Hy
  icases Hy' with ⟨Hr, Hyt⟩
  imod (Transfers.batch_alloc' (Lvl := ℕ) EC (c : Thread nD τ) () NN (deliv c bm w1 w2 Y T fs) (sm := .dma cell) (E := Set.univ)) $$ Hc with HB
  imodintro
  isplitr [Hr]
  · unfold issueInv
    rw [Nat.mul_zero, Ring.rangeSet_univ]
    isplitl [Ht]; · iexact Ht
    isplitl [HB]; · iexact HB
    isplitl [Hb']; · iexact Hb'
    iexact Hyt
  · iexact Hr

/-- A gather's issue loop over. -/
theorem gather_exit (bm : Memref sig .tc .vmem S2x512x1024 .f32) (cell : DmaSem sig) (T : ℕ)
    (fs : Buf (Elt F) (bm.view.loc (c : Thread nD τ))) (acc : Unit) :
    iprop(issueInv c bm cell w1 w2 Y T fs 512 acc ∗ yRest c w1 w2 Y T)
      ⊢ (iprop(tables c w1 w2 ∗ flight c w1 w2 Y bm cell T fs) : sProp 𝕄) := by
  unfold issueInv flight
  rw [show 2 * 512 = 1024 from rfl, Ring.bigSep_rangeSet_empty le_rfl, Ring.bigSep_rangeSet_empty le_rfl]
  iintro ⟨⟨Ht, HB, -, -⟩, Hr⟩
  isplitl [Ht]; · iexact Ht
  isplitl [HB]; · iexact HB
  iexact Hr

/-- A drain begins. -/
theorem drain_entry (bm : Memref sig .tc .vmem S2x512x1024 .f32) (cell : DmaSem sig) (T : ℕ)
    (fs : Buf (Elt F) (bm.view.loc (c : Thread nD τ))) (W : Waits sig Unit) (acc : Unit) :
    iprop(flight c w1 w2 Y bm cell T fs ∗ owes (c : Thread nD τ) 0 W)
      ⊢ (iprop(drainInv c bm cell w1 w2 Y T fs 0 acc ∗ yRest c w1 w2 Y T) : sProp 𝕄) := by
  unfold drainInv flight
  rw [if_pos (by decide), show 2 * 0 * NN = 0 by ring]
  iintro ⟨⟨HB, Hr⟩, HO⟩
  isplitr [Hr]
  · isplitl [HO]; · iexists W; iexact HO
    iexact HB
  · iexact Hr

/-- A drain over: the cell at zero, the buffer whole at the gathered tile, `y` whole again. -/
theorem drain_exit (bm : Memref sig .tc .vmem S2x512x1024 .f32) (hu : bm.view.set = Finset.univ) (cell : DmaSem sig) (T : ℕ)
    (fs : Buf (Elt F) (bm.view.loc (c : Thread nD τ))) (acc : Unit) :
    iprop(drainInv c bm cell w1 w2 Y T fs 512 acc ∗ yRest c w1 w2 Y T)
      ⊢ (iprop((∃ W, owes (c : Thread nD τ) 0 W) ∗ semVal ((c : Thread nD τ), SemLoc.dma cell) 0
          ∗ (bm.view.loc (c : Thread nD τ) ↦{fullShare} fs) ∗ (ym.view.loc (c : Thread nD τ) ↦{fullShare} Y)) : sProp 𝕄) := by
  unfold drainInv
  rw [if_neg (by decide), show (BI.bigSep Finset.univ (deliv c bm w1 w2 Y T fs) : sProp 𝕄)
    = iprop((BI.bigSep Finset.univ fun t => (bm.view.loc (c : Thread nD τ) ↦[rowSet c bm t]{fullShare} fs))
      ∗ BI.bigSep Finset.univ (fun t => yTok c w1 w2 Y T t)) from BI.bigSep_sep _ _ _]
  iintro ⟨⟨HO, Hc, Hb, Hyt⟩, Hr⟩
  isplitl [HO]; · iexact HO
  isplitl [Hc]; · iexact Hc
  isplitl [Hb]
  · iapply (Entails.of_eq (Ring.pointsTo_blocks (rowSet c bm) (rowSet_disjoint c bm hu) (rowSet_cover c bm hu) fs).symm)
    iexact Hb
  · iapply (y_rows c w1 w2 Y T).2
    isplitl [Hr]; · iexact Hr
    iexact Hyt

end Cert.Proof.Ple
-- ==== Proof.Ple.Body.lean ====
/-
  The kernel's body at a grid point: what it holds between points (`Φ`), what it leaves in the output's buffer (`outv`),
  and its run at an even point, at an odd point before the last, and at the last.
-/
module

public import proofs.«01_k».proof.Proof.Ple.Trips
public import Idealize.ShloMosaic.Lib.Pipeline.FrameBody

@[expose] public section

set_option maxRecDepth 16384

noncomputable section

namespace Cert.Proof.Ple

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

/-! ## The conditions -/

theorem coords_val : ∀ t : Fin grid0.N, (grid0.coords t 0).val = t.val := by decide
theorem cond1_iff : ∀ t : Fin grid0.N, k0_cond1 (grid0.coords t) = 1#1 ↔ t.val = 0 := by decide
theorem cond2_iff : ∀ t : Fin grid0.N, k0_cond2 (grid0.coords t) = 1#1 ↔ t.val % 2 = 0 := by decide
theorem cond3_not : ∀ t : Fin grid0.N, ¬ k0_cond3 (grid0.coords t) = 1#1 := by decide
theorem cond4_iff : ∀ t : Fin grid0.N, k0_cond4 (grid0.coords t) = 1#1 ↔ t.val % 2 = 1 ∧ t.val < 63 := by decide
theorem cond5_iff : ∀ t : Fin grid0.N, k0_cond5 (grid0.coords t) = 1#1 ↔ t.val = 63 := by decide

variable (c : Dev nD) (w1 w2 : S32768.Idx → BitVec 32) (hw1 : ∀ n, (w1 n).toNat < 81920) (hw2 : ∀ n, (w2 n).toNat < 81920)
  (Y : S81920x1024.Idx → Elt F .f32)

/-! ## The loops at the head of a program -/

/-- A whole gather. -/
theorem wp_gather (bm : Memref sig .tc .vmem S2x512x1024 .f32) (hu : bm.view.set = Finset.univ) (cell : DmaSem sig) (T : ℕ)
    (fs : Buf (Elt F) (bm.view.loc (c : Thread nD τ))) (l : Scf.Loop 32) (hl : l.trips = 512) (hok : l.OK)
    (body : Fin l.trips → Unit → Prog (TpuEff nD τ sig (Elt F) Λ₀ .tc) Unit)
    (hb : ∀ (k : Fin l.trips) (acc : Unit), issueInv c bm cell w1 w2 Y T fs k.val acc
      ⊢ wp frame (wpE (defs₀ (F := F)) Variants.none (c : Thread nD τ) none) Set.univ (body k acc) (issueInv c bm cell w1 w2 Y T fs (k.val + 1)))
    {α : Type} {kk : Unit → Prog (TpuEff nD τ sig (Elt F) Λ₀ .tc) α} {Q : α → sProp 𝕄} :
    iprop(tables c w1 w2 ∗ semVal ((c : Thread nD τ), SemLoc.dma cell) 0 ∗ (∃ g, bm.view.loc (c : Thread nD τ) ↦{fullShare} g)
        ∗ (ym.view.loc (c : Thread nD τ) ↦{fullShare} Y))
      ⊢ iprop((iprop(tables c w1 w2 ∗ flight c w1 w2 Y bm cell T fs)
          -∗ wp frame (wpE (defs₀ (F := F)) Variants.none (c : Thread nD τ) none) Set.univ (kk ⟨⟩) Q)
        -∗ wp frame (wpE (defs₀ (F := F)) Variants.none (c : Thread nD τ) none) Set.univ (Scf.Loop.for l hok ⟨⟩ body >>= kk) Q) := by
  iintro H Hk
  imod (gather_entry c w1 w2 Y bm hu cell T fs ⟨⟩) $$ H with ⟨HI, Hr⟩
  iapply (Scf.wp_for_bind frame (wpE (defs₀ (F := F)) Variants.none (c : Thread nD τ) none) Set.univ l.lb l.ub l.st hok ⟨⟩ body
    (issueInv c bm cell w1 w2 Y T fs) hb) $$ HI
  iintro %acc HI
  iapply Hk
  iapply (gather_exit c w1 w2 Y bm cell T fs acc)
  isplitl [HI]
  · rw [show Scf.trips l.lb l.ub l.st = 512 from hl]; iexact HI
  · iexact Hr

/-- A whole drain. -/
theorem wp_drain (bm : Memref sig .tc .vmem S2x512x1024 .f32) (hu : bm.view.set = Finset.univ) (cell : DmaSem sig) (T : ℕ)
    (fs : Buf (Elt F) (bm.view.loc (c : Thread nD τ))) (l : Scf.Loop 32) (hl : l.trips = 512) (hok : l.OK)
    (body : Fin l.trips → Unit → Prog (TpuEff nD τ sig (Elt F) Λ₀ .tc) Unit)
    (hb : ∀ (k : Fin l.trips) (acc : Unit), drainInv c bm cell w1 w2 Y T fs k.val acc
      ⊢ wp frame (wpE (defs₀ (F := F)) Variants.none (c : Thread nD τ) none) Set.univ (body k acc) (drainInv c bm cell w1 w2 Y T fs (k.val + 1)))
    (W : Waits sig Unit) {α : Type} {kk : Unit → Prog (TpuEff nD τ sig (Elt F) Λ₀ .tc) α} {Q : α → sProp 𝕄} :
    iprop(flight c w1 w2 Y bm cell T fs ∗ owes (c : Thread nD τ) 0 W)
      ⊢ iprop((iprop((∃ W, owes (c : Thread nD τ) 0 W) ∗ semVal ((c : Thread nD τ), SemLoc.dma cell) 0
          ∗ (bm.view.loc (c : Thread nD τ) ↦{fullShare} fs) ∗ (ym.view.loc (c : Thread nD τ) ↦{fullShare} Y))
          -∗ wp frame (wpE (defs₀ (F := F)) Variants.none (c : Thread nD τ) none) Set.univ (kk ⟨⟩) Q)
        -∗ wp frame (wpE (defs₀ (F := F)) Variants.none (c : Thread nD τ) none) Set.univ (Scf.Loop.for l hok ⟨⟩ body >>= kk) Q) := by
  iintro H Hk
  ihave HI := (drain_entry c w1 w2 Y bm cell T fs W ⟨⟩) $$ H
  icases HI with ⟨HI, Hr⟩
  iapply (Scf.wp_for_bind frame (wpE (defs₀ (F := F)) Variants.none (c : Thread nD τ) none) Set.univ l.lb l.ub l.st hok ⟨⟩ body
    (drainInv c bm cell w1 w2 Y T fs) hb) $$ HI
  iintro %acc HI
  iapply Hk
  iapply (drain_exit c w1 w2 Y bm hu cell T fs acc)
  isplitl [HI]
  · rw [show Scf.trips l.lb l.ub l.st = 512 from hl]; iexact HI
  · iexact Hr

/-! ## What the body leaves in the output's buffer -/

/-- The output tile from the windows' blocks and the gathered tile: the one store's payload. -/
def outv (x0 : Vec F S512x1024 .f32) (x1 : Vec F S512x128 .f32) (x2 : Vec F S512x256 .f32) (x3 : Vec F S1x1024 .f32)
    (x4 : Vec F S1024x1024 .bf16) (x5 : Vec F S256x1024 .bf16) (x6 : Vec F S1x1024 .f32) (b : Vec F S2x512x1024 .f32) : Vec F S512x1024 .f32 :=
  have rX : Rect S512x1024 := Rect.unit (s := S512x1024) ![0, 0] S512x1024.size inb_S512x1024_S512x1024_0_0
  have rt : FVec F S512x128 .f32 := View.ld x1 (Rect.unit (s := S512x128) ![0, 0] S512x128.size inb_S512x128_S512x128_0_0)
  have x : FVec F S512x1024 .f32 := View.ld x0 (Rect.unit (s := S512x1024) ![0, 0] S512x1024.size inb_S512x1024_S512x1024_0_0)
  have p0 : FVec F S1x512x1024 .f32 := View.ld b (Rect.unit (s := S2x512x1024) ![0, 0, 0] S1x512x1024.size inb_S2x512x1024_S1x512x1024_0_0_0)
  have p1 : FVec F S1x512x1024 .f32 := View.ld b (Rect.unit (s := S2x512x1024) ![1, 0, 0] S1x512x1024.size inb_S2x512x1024_S1x512x1024_1_0_0)
  View.canon (Val := Elt F) (e := .f32) [⟨Rect.unit (s := S512x1024) ![0, 0] S512x1024.size inb_S512x1024_S512x1024_0_0,
    k0_pay11 (k0_pay3 rt x p0 p1)
      (k0_pay4 rt x p0 p1 (View.ld x3 (Rect.unit (s := S1x1024) ![0, 0] S1x1024.size inb_S1x1024_S1x1024_0_0)))
      (View.ld x4 (Rect.unit (s := S1024x1024) ![0, 0] S1024x1024.size inb_S1024x1024_S1024x1024_0_0))
      (View.ld x2 (Rect.unit (s := S512x256) ![0, 0] S512x256.size inb_S512x256_S512x256_0_0))
      (View.ld x5 (Rect.unit (s := S256x1024) ![0, 0] S256x1024.size inb_S256x1024_S256x1024_0_0))
      (View.ld x6 (Rect.unit (s := S1x1024) ![0, 0] S1x1024.size inb_S1x1024_S1x1024_0_0))⟩]

theorem cover_out (p0 : Vec F S512x1024 .f32) (y : S512x1024.Idx) :
    ∃ pc ∈ ([⟨Rect.unit (s := S512x1024) ![0, 0] S512x1024.size inb_S512x1024_S512x1024_0_0, p0⟩] : List (View.Piece (Elt F) S512x1024 .f32)), y ∈ pc.1.set :=
  View.cover_of_tiled [⟨Rect.unit (s := S512x1024) ![0, 0] S512x1024.size inb_S512x1024_S512x1024_0_0, p0⟩] S512x1024.size (by rfl) y

/-! ## Between points -/

/-- Nothing in flight: both cells at zero, both buffers whole at something, `y` whole. -/
def idle : sProp 𝕄 :=
  iprop(semVal ((c : Thread nD τ), SemLoc.dma cellA) 0 ∗ semVal ((c : Thread nD τ), SemLoc.dma cellB) 0
    ∗ (∃ g, bA.view.loc (c : Thread nD τ) ↦{fullShare} g) ∗ (∃ g, bB.view.loc (c : Thread nD τ) ↦{fullShare} g)
    ∗ (ym.view.loc (c : Thread nD τ) ↦{fullShare} Y))

/-- Tile `T` in flight into the even buffer, the odd one idle. -/
def evenΦ (T : ℕ) : sProp 𝕄 :=
  iprop(flight c w1 w2 Y bA cellA T (tileVal w1 w2 Y T) ∗ semVal ((c : Thread nD τ), SemLoc.dma cellB) 0
    ∗ (∃ g, bB.view.loc (c : Thread nD τ) ↦{fullShare} g))
/-- Tile `T` in flight into the odd buffer, the even one idle. -/
def oddΦ (T : ℕ) : sProp 𝕄 :=
  iprop(flight c w1 w2 Y bB cellB T (tileVal w1 w2 Y T) ∗ semVal ((c : Thread nD τ), SemLoc.dma cellA) 0
    ∗ (∃ g, bA.view.loc (c : Thread nD τ) ↦{fullShare} g))

/-- Before point `T`: the tables, and either nothing in flight (before the first point, after the last) or tile `T`. -/
def Φt (T : ℕ) : sProp 𝕄 :=
  iprop(tables c w1 w2 ∗ (if T = 0 ∨ 64 ≤ T then idle c Y else if T % 2 = 0 then evenΦ c w1 w2 Y T else oddΦ c w1 w2 Y T))

theorem hA : bA.view.set = Finset.univ := View.set_whole _
theorem hB : bB.view.set = Finset.univ := View.set_whole _

section Bodies

variable (t : Fin grid0.N) (arg3 : Memref sig .tc .vmem S512x1024 .f32) (harg3 : arg3.IsWhole) (arg4 : Memref sig .tc .vmem S512x128 .f32) (harg4 : arg4.IsWhole)
  (arg5 : Memref sig .tc .vmem S512x256 .f32) (harg5 : arg5.IsWhole) (arg6 : Memref sig .tc .vmem S1x1024 .f32) (harg6 : arg6.IsWhole)
  (arg7 : Memref sig .tc .vmem S1024x1024 .bf16) (harg7 : arg7.IsWhole) (arg8 : Memref sig .tc .vmem S256x1024 .bf16) (harg8 : arg8.IsWhole)
  (arg9 : Memref sig .tc .vmem S1x1024 .f32) (harg9 : arg9.IsWhole) (arg11 : Memref sig .tc .vmem S512x1024 .f32) (harg11 : arg11.IsWhole)
  (hm0 : t1m.IsWhole) (hm1 : t2m.IsWhole) (hm9 : ym.IsWhole) (hwA : bA.IsWhole) (hwB : bB.IsWhole)
  (x0 : Vec F S512x1024 .f32) (x1 : Vec F S512x128 .f32) (x2 : Vec F S512x256 .f32) (x3 : Vec F S1x1024 .f32)
  (x4 : Vec F S1024x1024 .bf16) (x5 : Vec F S256x1024 .bf16) (x6 : Vec F S1x1024 .f32)

/-- The input windows' buffers at the blocks. -/
abbrev ins : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ owns (c : Thread nD τ) arg8 fullShare x5
    ∗ owns (c : Thread nD τ) arg9 fullShare x6)

/-- The body at the point. -/
abbrev bodyP : Prog (TpuEff nD τ sig (Elt F) Λ₀ .tc) PUnit :=
  cc0_ple (grid0.coords t) t1m hm0 t2m hm1 arg3 harg3 arg4 harg4 arg5 harg5 arg6 harg6 arg7 harg7 arg8 harg8 arg9 harg9 ym hm9 arg11 harg11 bA hwA bB hwB cc0_scratch2

include hw1 hw2 in
set_option maxHeartbeats 1600000 in
/-- The body at an even point. -/
theorem run_even (ht : t.val % 2 = 0) (W : Waits sig Unit) (K : PUnit → sProp 𝕄) :
    iprop(Φt c w1 w2 Y t.val ∗ owes (c : Thread nD τ) 0 W ∗ ins c arg3 arg4 arg5 arg6 arg7 arg8 arg9 x0 x1 x2 x3 x4 x5 x6
        ∗ (∃ d, owns (c : Thread nD τ) arg11 fullShare d)
        ∗ (iprop(Φt c w1 w2 Y (t.val + 1) ∗ (∃ W, owes (c : Thread nD τ) 0 W) ∗ ins c arg3 arg4 arg5 arg6 arg7 arg8 arg9 x0 x1 x2 x3 x4 x5 x6
            ∗ owns (c : Thread nD τ) arg11 fullShare (outv x0 x1 x2 x3 x4 x5 x6 (tileVal w1 w2 Y t.val))) -∗ K ⟨⟩))
      ⊢ wp frame (wpE (defs₀ (F := F)) Variants.none (c : Thread nD τ) none) Set.univ
          (bodyP t arg3 harg3 arg4 harg4 arg5 harg5 arg6 harg6 arg7 harg7 arg8 harg8 arg9 harg9 arg11 harg11 hm0 hm1 hm9 hwA hwB) K := by
  have htN : t.val < 64 := t.isLt.trans_eq N_0
  have h2 : k0_cond2 (grid0.coords t) = 1#1 := (cond2_iff t).mpr ht
  have h4 : ¬ k0_cond4 (grid0.coords t) = 1#1 := fun h => by have := (cond4_iff t).mp h; omega
  have h5 : ¬ k0_cond5 (grid0.coords t) = 1#1 := fun h => by have := (cond5_iff t).mp h; omega
  have hi : (grid0.coords t 0).val = t.val := coords_val t
  have e1 : Φt c w1 w2 Y (t.val + 1) = iprop(tables c w1 w2 ∗ oddΦ c w1 w2 Y (t.val + 1)) := by
    unfold Φt; rw [if_neg (by omega), if_neg (by omega)]
  rw [e1]
  unfold bodyP
  simp only [cc0_ple_eq_skeleton]; unfold cc0_ple_skel
  simp only [k0_part5_eq_skeleton]; unfold k0_part5_skel
  simp only [dif_pos h2, dif_neg (cond3_not t), dif_neg h4, dif_neg h5]
  simp only [k0_part1_eq_skeleton]; unfold k0_part1_skel
  unfold ins owns Φt
  by_cases h0 : t.val = 0
  on_goal 1 =>
    rw [if_pos (Or.inl h0)]
    simp only [dif_pos ((cond1_iff t).mpr h0), bind_assoc, pure_bind]
    unfold idle
    iintro ⟨⟨Ht, HA, HB, HbA, HbB, HY⟩, HO, ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, Hk⟩
    subst hf0 hf1 hf2 hf3 hf4 hf5 hf6
    iapply (wp_gather c w1 w2 Y bA hA cellA t.val (tileVal w1 w2 Y t.val) k0_t1_loop trips1 _ _
        (fun k acc => by
          have := t1_trip c w1 w2 hw1 hw2 Y (grid0.coords t) arg3 harg3 arg4 harg4 arg5 harg5 arg6 harg6 arg7 harg7 arg8 harg8 arg9 harg9 arg11 harg11
            hm0 hm1 hm9 hwA hwB ((cond1_iff t).mpr h0) (by omega) k acc
          rw [hi] at this; exact this)) $$ [Ht HA HbA HY]
    · isplitl [Ht]; · iexact Ht
      isplitl [HA]; · iexact HA
      isplitl [HbA]; · iexact HbA
      iexact HY
    iintro ⟨Ht, HF⟩
  on_goal 2 =>
    rw [if_neg (show ¬ (t.val = 0 ∨ 64 ≤ t.val) by omega), if_pos ht]
    simp only [dif_neg (fun h => h0 ((cond1_iff t).mp h)), bind_assoc, pure_bind]
    unfold evenΦ
    iintro ⟨⟨Ht, HF, HB, HbB⟩, HO, ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, Hk⟩
    subst hf0 hf1 hf2 hf3 hf4 hf5 hf6
  all_goals
    iapply (wp_drain c w1 w2 Y bA hA cellA t.val (tileVal w1 w2 Y t.val) k0_t2_loop trips2 _ _
        (fun k acc => t2_trip c w1 w2 Y (grid0.coords t) arg3 harg3 arg4 harg4 arg5 harg5 arg6 harg6 arg7 harg7 arg8 harg8 arg9 harg9 arg11 harg11
            hm0 hm1 hm9 hwA hwB _ h2 t.val k acc) W) $$ [HF HO]
    · isplitl [HF]; · iexact HF
      iexact HO
    iintro ⟨⟨%W', HO⟩, HA, HbA, HY⟩
    iapply (wp_gather c w1 w2 Y bB hB cellB (t.val + 1) (tileVal w1 w2 Y (t.val + 1)) k0_t3_loop trips3 _ _
        (fun k acc => by
          have := t3_trip c w1 w2 hw1 hw2 Y (grid0.coords t) arg3 harg3 arg4 harg4 arg5 harg5 arg6 harg6 arg7 harg7 arg8 harg8 arg9 harg9 arg11 harg11
            hm0 hm1 hm9 hwA hwB (BitVec.ofNat 32 (grid0.coords t 0).val) h2 (by omega) k acc
          rw [hi] at this; exact this)) $$ [Ht HB HbB HY]
    · isplitl [Ht]; · iexact Ht
      isplitl [HB]; · iexact HB
      isplitl [HbB]; · iexact HbB
      iexact HY
    iintro ⟨Ht, HF⟩
    sl_exec
    sl_step
    iapply Hk
    isplitl [Ht HF HA HbA]
    · isplitl [Ht]; · iexact Ht
      unfold oddΦ
      isplitl [HF]; · iexact HF
      isplitl [HA]; · iexact HA
      iexists _; iexact HbA
    isplitl [HO]; · iexists _; iexact HO
    isplitr [H7]
    · isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      iexists f6; isplitr; · ipureintro; rfl
      iexact H6
    iexists _; isplitr
    swap; · iexact H7
    ipureintro
    exact View.read_writes_eq_canon _ _ _ (cover_out _)

include hw1 hw2 in
set_option maxHeartbeats 1600000 in
/-- The body at an odd point before the last. -/
theorem run_odd (ht : t.val % 2 = 1) (hl : t.val < 63) (W : Waits sig Unit) (K : PUnit → sProp 𝕄) :
    iprop(Φt c w1 w2 Y t.val ∗ owes (c : Thread nD τ) 0 W ∗ ins c arg3 arg4 arg5 arg6 arg7 arg8 arg9 x0 x1 x2 x3 x4 x5 x6
        ∗ (∃ d, owns (c : Thread nD τ) arg11 fullShare d)
        ∗ (iprop(Φt c w1 w2 Y (t.val + 1) ∗ (∃ W, owes (c : Thread nD τ) 0 W) ∗ ins c arg3 arg4 arg5 arg6 arg7 arg8 arg9 x0 x1 x2 x3 x4 x5 x6
            ∗ owns (c : Thread nD τ) arg11 fullShare (outv x0 x1 x2 x3 x4 x5 x6 (tileVal w1 w2 Y t.val))) -∗ K ⟨⟩))
      ⊢ wp frame (wpE (defs₀ (F := F)) Variants.none (c : Thread nD τ) none) Set.univ
          (bodyP t arg3 harg3 arg4 harg4 arg5 harg5 arg6 harg6 arg7 harg7 arg8 harg8 arg9 harg9 arg11 harg11 hm0 hm1 hm9 hwA hwB) K := by
  have htN : t.val < 64 := t.isLt.trans_eq N_0
  have h1 : ¬ k0_cond1 (grid0.coords t) = 1#1 := fun h => by have := (cond1_iff t).mp h; omega
  have h2 : ¬ k0_cond2 (grid0.coords t) = 1#1 := fun h => by have := (cond2_iff t).mp h; omega
  have h4 : k0_cond4 (grid0.coords t) = 1#1 := (cond4_iff t).mpr ⟨ht, hl⟩
  have h5 : ¬ k0_cond5 (grid0.coords t) = 1#1 := fun h => by have := (cond5_iff t).mp h; omega
  have hi : (grid0.coords t 0).val = t.val := coords_val t
  have e0 : Φt c w1 w2 Y t.val = iprop(tables c w1 w2 ∗ oddΦ c w1 w2 Y t.val) := by
    unfold Φt; rw [if_neg (by omega), if_neg (by omega)]
  have e1 : Φt c w1 w2 Y (t.val + 1) = iprop(tables c w1 w2 ∗ evenΦ c w1 w2 Y (t.val + 1)) := by
    unfold Φt; rw [if_neg (by omega), if_pos (by omega)]
  rw [e0, e1]
  unfold bodyP
  simp only [cc0_ple_eq_skeleton]; unfold cc0_ple_skel
  simp only [k0_part5_eq_skeleton]; unfold k0_part5_skel
  simp only [dif_neg h1, dif_neg h2, dif_neg (cond3_not t), dif_pos h4, dif_neg h5]
  simp only [k0_part3_eq_skeleton]; unfold k0_part3_skel
  simp only [bind_assoc, pure_bind]
  unfold ins owns oddΦ
  iintro ⟨⟨Ht, HF, HA, HbA⟩, HO, ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, Hk⟩
  subst hf0 hf1 hf2 hf3 hf4 hf5 hf6
  iapply (wp_drain c w1 w2 Y bB hB cellB t.val (tileVal w1 w2 Y t.val) k0_t5_loop trips5 _ _
      (fun k acc => t5_trip c w1 w2 Y (grid0.coords t) arg3 harg3 arg4 harg4 arg5 harg5 arg6 harg6 arg7 harg7 arg8 harg8 arg9 harg9 arg11 harg11
          hm0 hm1 hm9 hwA hwB _ h4 t.val k acc) W) $$ [HF HO]
  · isplitl [HF]; · iexact HF
    iexact HO
  iintro ⟨⟨%W', HO⟩, HB, HbB, HY⟩
  iapply (wp_gather c w1 w2 Y bA hA cellA (t.val + 1) (tileVal w1 w2 Y (t.val + 1)) k0_t6_loop trips6 _ _
      (fun k acc => by
        have := t6_trip c w1 w2 hw1 hw2 Y (grid0.coords t) arg3 harg3 arg4 harg4 arg5 harg5 arg6 harg6 arg7 harg7 arg8 harg8 arg9 harg9 arg11 harg11
          hm0 hm1 hm9 hwA hwB (BitVec.ofNat 32 (grid0.coords t 0).val) h4 (by omega) k acc
        rw [hi] at this; exact this)) $$ [Ht HA HbA HY]
  · isplitl [Ht]; · iexact Ht
    isplitl [HA]; · iexact HA
    isplitl [HbA]; · iexact HbA
    iexact HY
  iintro ⟨Ht, HF⟩
  sl_exec
  sl_step
  iapply Hk
  isplitl [Ht HF HB HbB]
  · isplitl [Ht]; · iexact Ht
    unfold evenΦ
    isplitl [HF]; · iexact HF
    isplitl [HB]; · iexact HB
    iexists _; iexact HbB
  isplitl [HO]; · iexists _; iexact HO
  isplitr [H7]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  iexists _; isplitr
  swap; · iexact H7
  ipureintro
  exact View.read_writes_eq_canon _ _ _ (cover_out _)

set_option maxHeartbeats 1600000 in
/-- The body at the last point: nothing more is issued. -/
theorem run_last (hl : t.val = 63) (W : Waits sig Unit) (K : PUnit → sProp 𝕄) :
    iprop(Φt c w1 w2 Y t.val ∗ owes (c : Thread nD τ) 0 W ∗ ins c arg3 arg4 arg5 arg6 arg7 arg8 arg9 x0 x1 x2 x3 x4 x5 x6
        ∗ (∃ d, owns (c : Thread nD τ) arg11 fullShare d)
        ∗ (iprop(Φt c w1 w2 Y (t.val + 1) ∗ (∃ W, owes (c : Thread nD τ) 0 W) ∗ ins c arg3 arg4 arg5 arg6 arg7 arg8 arg9 x0 x1 x2 x3 x4 x5 x6
            ∗ owns (c : Thread nD τ) arg11 fullShare (outv x0 x1 x2 x3 x4 x5 x6 (tileVal w1 w2 Y t.val))) -∗ K ⟨⟩))
      ⊢ wp frame (wpE (defs₀ (F := F)) Variants.none (c : Thread nD τ) none) Set.univ
          (bodyP t arg3 harg3 arg4 harg4 arg5 harg5 arg6 harg6 arg7 harg7 arg8 harg8 arg9 harg9 arg11 harg11 hm0 hm1 hm9 hwA hwB) K := by
  have h1 : ¬ k0_cond1 (grid0.coords t) = 1#1 := fun h => by have := (cond1_iff t).mp h; omega
  have h2 : ¬ k0_cond2 (grid0.coords t) = 1#1 := fun h => by have := (cond2_iff t).mp h; omega
  have h4 : ¬ k0_cond4 (grid0.coords t) = 1#1 := fun h => by have := (cond4_iff t).mp h; omega
  have h5 : k0_cond5 (grid0.coords t) = 1#1 := (cond5_iff t).mpr hl
  have e0 : Φt c w1 w2 Y t.val = iprop(tables c w1 w2 ∗ oddΦ c w1 w2 Y t.val) := by
    unfold Φt; rw [if_neg (by omega), if_neg (by omega)]
  have e1 : Φt c w1 w2 Y (t.val + 1) = iprop(tables c w1 w2 ∗ idle c Y) := by
    unfold Φt; rw [if_pos (by omega)]
  rw [e0, e1]
  unfold bodyP
  simp only [cc0_ple_eq_skeleton]; unfold cc0_ple_skel
  simp only [k0_part5_eq_skeleton]; unfold k0_part5_skel
  simp only [dif_neg h1, dif_neg h2, dif_neg (cond3_not t), dif_neg h4, dif_pos h5]
  simp only [k0_part4_eq_skeleton]; unfold k0_part4_skel
  simp only [bind_assoc, pure_bind]
  unfold ins owns oddΦ
  iintro ⟨⟨Ht, HF, HA, HbA⟩, HO, ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, Hk⟩
  subst hf0 hf1 hf2 hf3 hf4 hf5 hf6
  iapply (wp_drain c w1 w2 Y bB hB cellB t.val (tileVal w1 w2 Y t.val) k0_t7_loop trips7 _ _
      (fun k acc => t7_trip c w1 w2 Y (grid0.coords t) arg3 harg3 arg4 harg4 arg5 harg5 arg6 harg6 arg7 harg7 arg8 harg8 arg9 harg9 arg11 harg11
          hm0 hm1 hm9 hwA hwB h5 t.val k acc) W) $$ [HF HO]
  · isplitl [HF]; · iexact HF
    iexact HO
  iintro ⟨⟨%W', HO⟩, HB, HbB, HY⟩
  sl_exec
  sl_step
  iapply Hk
  isplitl [Ht HA HB HbA HbB HY]
  · isplitl [Ht]; · iexact Ht
    unfold idle
    isplitl [HA]; · iexact HA
    isplitl [HB]; · iexact HB
    isplitl [HbA]; · iexact HbA
    isplitl [HbB]; · iexists _; iexact HbB
    iexact HY
  isplitl [HO]; · iexists _; iexact HO
  isplitr [H7]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  iexists _; isplitr
  swap; · iexact H7
  ipureintro
  exact View.read_writes_eq_canon _ _ _ (cover_out _)

end Bodies

end Cert.Proof.Ple
-- ==== Proof.Ple.Run.lean ====
/-
  The last call's run: the host operations before the region, the pipeline's proof data, the body obligation from the three
  runs of the body, and the launch. The theorem `run_main` says, over any float values: from any memory whose two tables
  name rows of `y`, every execution ends, with every window's array at what the pipeline leaves, every argument as it was
  and every counter at zero.
-/
module

public import proofs.«01_k».proof.Proof.Ple.Body
public import Idealize.ShloMosaic.Lib.Pipeline.Regions

@[expose] public section

set_option maxRecDepth 16384

noncomputable section

namespace Cert.Proof.Ple

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra, the left component. -/
abbrev EP : Emb (UR sig nD τ) (MT nD τ sig Unit (Elt F) ℕ (UU nD τ) ℕ) := embL

variable (m : (ℓ : Loc nD τ sig) → Buf (Elt F) ℓ) (ρ : Dev nD → PrngReg)

/-! ## @main before the region -/

/-- Core `c`'s buffers at launch, as a valuation; -/
abbrev V₀ (c : Dev nD) : Valuation τ sig (Elt F) := fun b => (s₀ m ρ).mem ((c : Dev nD), b)
/-- and when the region is entered. -/
abbrev V (c : Dev nD) (b : Ref sig .tc) : Buf (Elt F) ((c : Thread nD τ).loc b) := StableHlo.after hostOps0 (V₀ m ρ c) b

/-- A buffer that no host operation writes reaches the region as launched. -/
theorem V_eq (c : Dev nD) (b : Ref sig .tc) (hb : b ≠ main_v0 ∧ b ≠ main_v1 ∧ b ≠ main_v2 ∧ b ≠ main_v3 ∧ b ≠ main_v4) :
    V m ρ c b = m ((c : Thread nD τ).loc b) := by
  refine StableHlo.after_of_forall_not_mem (b := Proc.devRef .tc b) hostOps0 (V₀ m ρ c) ?_
  obtain ⟨h0, h1, h2, h3, h4⟩ := hb
  intro op hop
  simp only [List.mem_cons, List.mem_nil_iff, or_false] at hop
  rcases hop with rfl | rfl | rfl | rfl | rfl <;>
    simp only [StableHlo.unary_writes, StableHlo.reshape_writes, Finset.mem_singleton] <;>
    exact StableHlo.devRef_ne_of_ne ‹_›

/-- The TensorCore's unscoped references, as device buffers. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The pipeline's proof data -/

/-- The first table at launch, -/
abbrev w1 : S32768.Idx → BitVec 32 := m (((0 : Dev nD) : Thread nD τ).loc main_arg0)
/-- the second, -/
abbrev w2 : S32768.Idx → BitVec 32 := m (((0 : Dev nD) : Thread nD τ).loc main_arg1)
/-- and the rows they name. -/
abbrev Yv (c : Dev nD) : S81920x1024.Idx → Elt F .f32 := m ((c : Thread nD τ).loc main_arg9)

/-- The tables' contents that the region is entered with. -/
def adm : (p : Fin 1) → (pcfgs (F := F) p).Adm := fun _ => ⟨fun | 0 => w1 m | 1 => w2 m, trivial⟩

/-- The pipeline at those tables. -/
abbrev cfgM : Cfg sig Λ₀ := cfg0 (adm m 0)

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m ρ c (Pipeline.arrRef spec0 w))

/-- What the output's buffer holds after point `t`. -/
def outAt (c : Dev nD) (t : Fin (cfgM m).N) : Vec F S512x1024 .f32 :=
  outv (iblk m ρ c 0 t) (iblk m ρ c 1 t) (iblk m ρ c 2 t) (iblk m ρ c 3 t) (iblk m ρ c 4 t) (iblk m ρ c 5 t) (iblk m ρ c 6 t)
    (tileVal (w1 m) (w2 m) (Yv m c) t.val)

/-- The proof data on core `c`. -/
def dats (_ : Fin 1) (c : Dev nD) : Dat τ (Elt F) Unit ℕ (UU nD τ) ℕ (cfgM m) c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => iblk m ρ c 6 t
    | ⟨7, _⟩ => outAt m ρ c t
  Φ t := Φt c (w1 m) (w2 m) (Yv m c) t.val
  q _ := fullShare
  owed _ := 0

theorem A_eq (c : Dev nD) (w : Fin (cfgM m).W) : (dats m ρ 0 c).A w = V m ρ c (Pipeline.arrRef spec0 w) := by
  dsimp only [dats]

theorem after_0 (c : Dev nD) (t : Fin (cfgM m).N) : (dats m ρ 0 c).after 0 t = iblk m ρ c 0 t := by dsimp only [dats]; rfl
theorem after_1 (c : Dev nD) (t : Fin (cfgM m).N) : (dats m ρ 0 c).after 1 t = iblk m ρ c 1 t := by dsimp only [dats]; rfl
theorem after_2 (c : Dev nD) (t : Fin (cfgM m).N) : (dats m ρ 0 c).after 2 t = iblk m ρ c 2 t := by dsimp only [dats]; rfl
theorem after_3 (c : Dev nD) (t : Fin (cfgM m).N) : (dats m ρ 0 c).after 3 t = iblk m ρ c 3 t := by dsimp only [dats]; rfl
theorem after_4 (c : Dev nD) (t : Fin (cfgM m).N) : (dats m ρ 0 c).after 4 t = iblk m ρ c 4 t := by dsimp only [dats]; rfl
theorem after_5 (c : Dev nD) (t : Fin (cfgM m).N) : (dats m ρ 0 c).after 5 t = iblk m ρ c 5 t := by dsimp only [dats]; rfl
theorem after_6 (c : Dev nD) (t : Fin (cfgM m).N) : (dats m ρ 0 c).after 6 t = iblk m ρ c 6 t := by dsimp only [dats]; rfl
theorem after_7 (c : Dev nD) (t : Fin (cfgM m).N) : (dats m ρ 0 c).after 7 t = outAt m ρ c t := by dsimp only [dats]; rfl

theorem before_0 (c : Dev nD) (t : Fin (cfgM m).N) (d) : (dats m ρ 0 c).before 0 t d = iblk m ρ c 0 t :=
  ((dats m ρ 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin (cfgM m).N) (d) : (dats m ρ 0 c).before 1 t d = iblk m ρ c 1 t :=
  ((dats m ρ 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin (cfgM m).N) (d) : (dats m ρ 0 c).before 2 t d = iblk m ρ c 2 t :=
  ((dats m ρ 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin (cfgM m).N) (d) : (dats m ρ 0 c).before 3 t d = iblk m ρ c 3 t :=
  ((dats m ρ 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin (cfgM m).N) (d) : (dats m ρ 0 c).before 4 t d = iblk m ρ c 4 t :=
  ((dats m ρ 0 c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)
theorem before_5 (c : Dev nD) (t : Fin (cfgM m).N) (d) : (dats m ρ 0 c).before 5 t d = iblk m ρ c 5 t :=
  ((dats m ρ 0 c).before_in_eq_fetched 5 rfl (fun _ => rfl) (fun _ _ _ => rfl)
    (fun t => by rw [after_5]; unfold Dat.blockOf iblk; rw [A_eq]; try rfl) t d).trans (by unfold Dat.fetched Dat.blockOf iblk; rw [A_eq]; try rfl)
theorem before_6 (c : Dev nD) (t : Fin (cfgM m).N) (d) : (dats m ρ 0 c).before 6 t d = iblk m ρ c 6 t :=
  ((dats m ρ 0 c).before_in_eq_fetched 6 rfl (fun _ => rfl) (fun _ _ _ => rfl)
    (fun t => by rw [after_6]; unfold Dat.blockOf iblk; rw [A_eq]; try rfl) t d).trans (by unfold Dat.fetched Dat.blockOf iblk; rw [A_eq]; try rfl)

/-! ## The body obligation -/

variable (hw1 : ∀ n, (w1 m n).toNat < 81920) (hw2 : ∀ n, (w2 m n).toNat < 81920)

/-- The body as the pipeline calls it at point `t`. -/
abbrev bodyAt (t : Fin (cfgM m).N) : Prog (TpuEff nD τ sig (Elt F) Λ₀ .tc) PUnit :=
  bodyP t (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7))
    (Memref.isWhole_whole _) (Memref.isWhole_whole _) (Memref.isWhole_whole _) (Memref.isWhole_whole _) (Memref.isWhole_whole _)

theorem defs₀_row (t : Fin (cfgM m).N) :
    defs₀ (F := F) .tc (cfgM m).body ((cfgM m).bodyArgs t ((cfgM m).slots t)) = bodyAt m t := by
  unfold defs₀; rw [Defs.onTc_tc]

include hw1 hw2 in
/-- The body at point `t`, from the windows' buffers at their blocks: whichever of its three forms the point takes. -/
theorem run_at (c : Dev nD) (t : Fin (cfgM m).N) (W : Waits sig Unit) (K : PUnit → sProp 𝕄) :
    iprop(Φt c (w1 m) (w2 m) (Yv m c) t.val ∗ owes (c : Thread nD τ) 0 W
        ∗ ins c (spec0_0.stage ((cfgM m).slots t 0)) (spec0_1.stage ((cfgM m).slots t 1)) (spec0_2.stage ((cfgM m).slots t 2)) (spec0_3.stage ((cfgM m).slots t 3)) (spec0_4.stage ((cfgM m).slots t 4)) (spec0_5.stage ((cfgM m).slots t 5)) (spec0_6.stage ((cfgM m).slots t 6)) (iblk m ρ c 0 t) (iblk m ρ c 1 t) (iblk m ρ c 2 t) (iblk m ρ c 3 t) (iblk m ρ c 4 t) (iblk m ρ c 5 t) (iblk m ρ c 6 t)
        ∗ (∃ d, owns (c : Thread nD τ) (spec0_7.stage ((cfgM m).slots t 7)) fullShare d)
        ∗ (iprop(Φt c (w1 m) (w2 m) (Yv m c) (t.val + 1) ∗ (∃ W, owes (c : Thread nD τ) 0 W)
            ∗ ins c (spec0_0.stage ((cfgM m).slots t 0)) (spec0_1.stage ((cfgM m).slots t 1)) (spec0_2.stage ((cfgM m).slots t 2)) (spec0_3.stage ((cfgM m).slots t 3)) (spec0_4.stage ((cfgM m).slots t 4)) (spec0_5.stage ((cfgM m).slots t 5)) (spec0_6.stage ((cfgM m).slots t 6)) (iblk m ρ c 0 t) (iblk m ρ c 1 t) (iblk m ρ c 2 t) (iblk m ρ c 3 t) (iblk m ρ c 4 t) (iblk m ρ c 5 t) (iblk m ρ c 6 t)
            ∗ owns (c : Thread nD τ) (spec0_7.stage ((cfgM m).slots t 7)) fullShare (outAt m ρ c t)) -∗ K ⟨⟩))
      ⊢ wp frame (wpE (defs₀ (F := F)) Variants.none (c : Thread nD τ) none) Set.univ (bodyAt m t) K := by
  have htN : t.val < 64 := t.isLt.trans_eq N_0
  by_cases ht : t.val % 2 = 0
  · exact run_even c (w1 m) (w2 m) hw1 hw2 (Yv m c) t (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7))
      _ _ _ _ _ (iblk m ρ c 0 t) (iblk m ρ c 1 t) (iblk m ρ c 2 t) (iblk m ρ c 3 t) (iblk m ρ c 4 t) (iblk m ρ c 5 t) (iblk m ρ c 6 t) ht W K
  · by_cases hl : t.val < 63
    · exact run_odd c (w1 m) (w2 m) hw1 hw2 (Yv m c) t (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7))
        _ _ _ _ _ (iblk m ρ c 0 t) (iblk m ρ c 1 t) (iblk m ρ c 2 t) (iblk m ρ c 3 t) (iblk m ρ c 4 t) (iblk m ρ c 5 t) (iblk m ρ c 6 t) (by omega) hl W K
    · exact run_last c (w1 m) (w2 m) (Yv m c) t (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7))
        _ _ _ _ _ (iblk m ρ c 0 t) (iblk m ρ c 1 t) (iblk m ρ c 2 t) (iblk m ρ c 3 t) (iblk m ρ c 4 t) (iblk m ρ c 5 t) (iblk m ρ c 6 t) (by omega) W K

/-- What the body is called with at point `t`, the windows one by one, -/
def bodyPre (c : Dev nD) (t : Fin (cfgM m).N) : sProp 𝕄 :=
  iprop((dats m ρ 0 c).Φ t.castSucc ∗ (dats m ρ 0 c).owesAt () t.castSucc
    ∗ (∃ d, owns (c : Thread nD τ) (spec0_0.stage ((cfgM m).slots t 0)) fullShare ((dats m ρ 0 c).before 0 t d)) ∗ (∃ d, owns (c : Thread nD τ) (spec0_1.stage ((cfgM m).slots t 1)) fullShare ((dats m ρ 0 c).before 1 t d)) ∗ (∃ d, owns (c : Thread nD τ) (spec0_2.stage ((cfgM m).slots t 2)) fullShare ((dats m ρ 0 c).before 2 t d)) ∗ (∃ d, owns (c : Thread nD τ) (spec0_3.stage ((cfgM m).slots t 3)) fullShare ((dats m ρ 0 c).before 3 t d)) ∗ (∃ d, owns (c : Thread nD τ) (spec0_4.stage ((cfgM m).slots t 4)) fullShare ((dats m ρ 0 c).before 4 t d)) ∗ (∃ d, owns (c : Thread nD τ) (spec0_5.stage ((cfgM m).slots t 5)) fullShare ((dats m ρ 0 c).before 5 t d)) ∗ (∃ d, owns (c : Thread nD τ) (spec0_6.stage ((cfgM m).slots t 6)) fullShare ((dats m ρ 0 c).before 6 t d)) ∗ (∃ d, owns (c : Thread nD τ) (spec0_7.stage ((cfgM m).slots t 7)) fullShare ((dats m ρ 0 c).before 7 t d)))

/-- and what it returns. -/
def bodyPost (c : Dev nD) (t : Fin (cfgM m).N) : sProp 𝕄 :=
  iprop((dats m ρ 0 c).Φ t.succ ∗ (dats m ρ 0 c).owesAt () t.succ
    ∗ owns (c : Thread nD τ) (spec0_0.stage ((cfgM m).slots t 0)) fullShare ((dats m ρ 0 c).after 0 t) ∗ owns (c : Thread nD τ) (spec0_1.stage ((cfgM m).slots t 1)) fullShare ((dats m ρ 0 c).after 1 t) ∗ owns (c : Thread nD τ) (spec0_2.stage ((cfgM m).slots t 2)) fullShare ((dats m ρ 0 c).after 2 t) ∗ owns (c : Thread nD τ) (spec0_3.stage ((cfgM m).slots t 3)) fullShare ((dats m ρ 0 c).after 3 t) ∗ owns (c : Thread nD τ) (spec0_4.stage ((cfgM m).slots t 4)) fullShare ((dats m ρ 0 c).after 4 t) ∗ owns (c : Thread nD τ) (spec0_5.stage ((cfgM m).slots t 5)) fullShare ((dats m ρ 0 c).after 5 t) ∗ owns (c : Thread nD τ) (spec0_6.stage ((cfgM m).slots t 6)) fullShare ((dats m ρ 0 c).after 6 t) ∗ owns (c : Thread nD τ) (spec0_7.stage ((cfgM m).slots t 7)) fullShare ((dats m ρ 0 c).after 7 t))

include hw1 hw2 in
theorem sound_body (c : Dev nD) (t : Fin (cfgM m).N) :
    bodyPre m ρ c t ⊢ wp frame (wpE (defs₀ (F := F)) Variants.none (c : Thread nD τ) none) Set.univ (bodyAt m t) (fun _ => bodyPost m ρ c t) := by
  unfold bodyPre bodyPost
  simp only [before_0, before_1, before_2, before_3, before_4, before_5, before_6, after_0, after_1, after_2, after_3, after_4, after_5, after_6, after_7]
  rw [show (dats m ρ 0 c).Φ t.castSucc = Φt c (w1 m) (w2 m) (Yv m c) t.val from rfl,
    show (dats m ρ 0 c).Φ t.succ = Φt c (w1 m) (w2 m) (Yv m c) (t.val + 1) from rfl]
  unfold Dat.owesAt Pipeline.owesWithin
  rw [show (dats m ρ 0 c).owed t.castSucc = 0 from rfl, show (dats m ρ 0 c).owed t.succ = 0 from rfl]
  iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (run_at m ρ hw1 hw2 c t W)
  isplitl [HΦ]; · iexact HΦ
  isplitl [HO]; · iexact HO
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  iintro ⟨HΦ, ⟨%W', HO⟩, ⟨H0, H1, H2, H3, H4, H5, H6⟩, H7⟩
  isplitl [HΦ]; · iexact HΦ
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Every point stores the output's tile. -/
theorem idle7 : ∀ t : Fin grid0.N, idle0 7 (grid0.coords t) = false := by decide

include hw1 hw2 in
/-- The library's body obligation. -/
theorem body_obligation (c : Dev nD) : BodyObligation (dats m ρ 0 c) (defs₀ (F := F)) Variants.none () Set.univ := fun t => by
  have hi : idle0 7 (((pcfg0 (F := F)).gridAt (adm m 0).1).coords t) = false := idle7 t
  rw [bigSep_W0, bigSep_W0, defs₀_row]
  dsimp only
  rw [hi]
  exact triple_restated (sound_body m ρ hw1 hw2 c t) rfl .rfl fun _ => .rfl

theorem Φ_last (c : Dev nD) : (dats m ρ 0 c).Φ (Fin.last (cfgM m).N) = Φt c (w1 m) (w2 m) (Yv m c) 64 := by
  dsimp only [dats]
  rw [Fin.val_last, show (cfgM m).N = 64 from N_0]

/-! ## The launch -/

/-- The gather's two semaphores. -/
abbrev osem : Fin 2 → SemLoc sig := fun | 0 => .dma 12 | 1 => .dma 13
theorem ownSemFacts : Pipeline.OwnSemFacts spec0 osem := by decide

/-- The launch element: the pipeline library's; no counter yet. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

omit [FloatOps F] in
theorem ownSems0_eq (c : Dev nD) :
    (Pipeline.ownSems0 (Ix := Unit) (Name := ℕ) (U := UU nD τ) (Lvl := ℕ) (Val := Elt F) (τ := τ) osem c : sProp 𝕄)
      = iprop(semVal ((c : Thread nD τ), SemLoc.dma cellA) 0 ∗ semVal ((c : Thread nD τ), SemLoc.dma cellB) 0) := by
  rw [cellA_eq, cellB_eq]
  exact Pipeline.ownSems0_eq_of_list c osem [0, 1] (by decide) (by decide)

omit [FloatOps F] in
/-- The two tables, from the launch's pair. -/
theorem prefHeld_eq (c : Dev nD) (v : pre0.Contents (Elt F)) :
    (Pipeline.prefHeld pre0 c (fun _ => fullShare) v : sProp 𝕄)
      = iprop((((c : Thread nD τ).loc main_arg0) ↦{fullShare} (show Buf (Elt F) ((c : Thread nD τ).loc main_arg0) from v 0))
          ∗ (((c : Thread nD τ).loc main_arg1) ↦{fullShare} (show Buf (Elt F) ((c : Thread nD τ).loc main_arg1) from v 1))) := by
  unfold Pipeline.prefHeld
  exact bigSep_univ_eq_bigSepL [(0 : Fin 2), (1 : Fin 2)] (by decide) (by decide) _

omit [FloatOps F] in
/-- The unscoped buffers that are no window's array, listed. -/
theorem rest_eq (c : Dev nD) (V : (b : Ref sig .tc) → Buf (Elt F) ((c : Thread nD τ).loc b)) :
    (Pipeline.unscopedRest (Ix := Unit) (Name := ℕ) (U := UU nD τ) (Lvl := ℕ) spec0 c V : sProp 𝕄)
      = iprop((((c : Thread nD τ).loc main_arg0) ↦{fullShare} V main_arg0) ∗ (((c : Thread nD τ).loc main_arg1) ↦{fullShare} V main_arg1) ∗ (((c : Thread nD τ).loc main_arg4) ↦{fullShare} V main_arg4) ∗ (((c : Thread nD τ).loc main_arg5) ↦{fullShare} V main_arg5) ∗ (((c : Thread nD τ).loc main_arg6) ↦{fullShare} V main_arg6) ∗ (((c : Thread nD τ).loc main_arg7) ↦{fullShare} V main_arg7) ∗ (((c : Thread nD τ).loc main_arg8) ↦{fullShare} V main_arg8) ∗ (((c : Thread nD τ).loc main_arg9) ↦{fullShare} V main_arg9)) :=
  Pipeline.unscopedRest_eq_of_list spec0 c V [main_arg0, main_arg1, main_arg4, main_arg5, main_arg6, main_arg7, main_arg8, main_arg9] (by decide) (by decide)

abbrev L : GSem nD τ sig → Finset Unit := fun _ => ∅
abbrev lv : GSem nD τ sig → Unit → ℕ := fun _ _ => 0
abbrev R (c : Dev nD) : sProp 𝕄 := iprop(∃ W, owes (c : Thread nD τ) (0 : CellTallies nD τ sig Unit) W)

/-- The host segment. -/
def seg0 : Pipeline.HostSeg (Name := ℕ) (U := UU nD τ) (pcfgs (F := F)) defs₀ Variants.none L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- The buffers that the region passes by, as launched. -/
abbrev Zc (c : Dev nD) : sProp 𝕄 := iprop((((c : Thread nD τ).loc main_arg4) ↦{fullShare} m ((c : Thread nD τ).loc main_arg4)) ∗ (((c : Thread nD τ).loc main_arg5) ↦{fullShare} m ((c : Thread nD τ).loc main_arg5)) ∗ (((c : Thread nD τ).loc main_arg6) ↦{fullShare} m ((c : Thread nD τ).loc main_arg6)) ∗ (((c : Thread nD τ).loc main_arg7) ↦{fullShare} m ((c : Thread nD τ).loc main_arg7)) ∗ (((c : Thread nD τ).loc main_arg8) ↦{fullShare} m ((c : Thread nD τ).loc main_arg8)))
/-- What the region leaves for the end. -/
abbrev Tₙ (c : Dev nD) : sProp 𝕄 :=
  iprop((dats m ρ 0 c).arrays ((dats m ρ 0 c).arrAt · (cfgM m).N) ∗ (tables c (w1 m) (w2 m) ∗ (ym.view.loc (c : Thread nD τ) ↦{fullShare} Yv m c)) ∗ Zc m c)

set_option backward.isDefEq.respectTransparency.types false in
/-- The region. -/
def reg0 : Pipeline.RegionSeg (pcfgs (F := F)) (adm m) (dats m ρ) () defs₀ Variants.none L lv 0 where
  win := (launch0 (F := F)).win.to₀
  block_pos := (launch0 (F := F)).block_pos
  stage_whole := (launch0 (F := F)).stage_whole
  K := Fin 2
  osem := osem
  ho := ownSemFacts
  hbody c := (body_obligation m ρ hw1 hw2 c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ c ∗ R c)
  X c := iprop((ym.view.loc (c : Thread nD τ) ↦{fullShare} Yv m c) ∗ semVal ((c : Thread nD τ), SemLoc.dma cellA) 0 ∗ semVal ((c : Thread nD τ), SemLoc.dma cellB) 0)
  Y c := iprop(tables c (w1 m) (w2 m) ∗ (ym.view.loc (c : Thread nD τ) ↦{fullShare} Yv m c))
  Z c := Zc m c
  hentry c := by
    obtain rfl : c = 0 := Subsingleton.elim _ _
    rw [show StableHlo.held ((0 : Dev nD) : Thread nD τ) ucRefs (StableHlo.after hostOps0 (V₀ m ρ 0)) = unscopedBufs 0 (V m ρ 0) from (unscopedBufs_held 0 _).symm,
      ownSems0_eq]
    have hsplit := (Pipeline.arrays_of_unscopedBufs (pcfgs (F := F)) (adm m) (dats m ρ) (launch0 (F := F)).win (launch0 (F := F)).arr_whole 0
      ((dats m ρ 0 0).share_full fun _ => rfl) (V m ρ 0) (A_eq m ρ 0)).trans (sep_mono .rfl (Entails.of_eq (rest_eq 0 (V m ρ 0))))
    rw [V_eq m ρ 0 main_arg0 (by decide), V_eq m ρ 0 main_arg1 (by decide), V_eq m ρ 0 main_arg4 (by decide), V_eq m ρ 0 main_arg5 (by decide), V_eq m ρ 0 main_arg6 (by decide), V_eq m ρ 0 main_arg7 (by decide), V_eq m ρ 0 main_arg8 (by decide), V_eq m ρ 0 main_arg9 (by decide)] at hsplit
    have hp := prefHeld_eq (F := F) 0 (adm m 0).1
    refine BIBase.Entails.trans ?_ (fupd_mono (sep_mono .rfl (sep_mono (Entails.of_eq hp.symm) .rfl)))
    iintro ⟨⟨Hub, HO⟩, Hos, -⟩
    ihave H := hsplit $$ Hub
    icases H with ⟨Ha, H0, H1, H4, H5, H6, H7, H8, H9⟩
    imodintro
    isplitl [Ha]; · iexact Ha
    isplitl [H0 H1]
    · isplitl [H0]; · iexact H0
      iexact H1
    isplitl [HO]
    · unfold Pipeline.Dat.owesAt Pipeline.owesWithin
      icases HO with ⟨%W, HO⟩; iexists W; isplitr; · ipureintro; exact fun _ _ => Or.inl trivial
      iexact HO
    isplitl [H9 Hos]
    · isplitl [H9]; · iexact H9
      iexact Hos
    isplitl [H4]; · iexact H4
    isplitl [H5]; · iexact H5
    isplitl [H6]; · iexact H6
    isplitl [H7]; · iexact H7
    iexact H8
  hin c := by
    rw [show (dats m ρ 0 c).Φ 0 = Φt c (w1 m) (w2 m) (Yv m c) 0 from rfl]
    have hp := prefHeld_eq (F := F) c (adm m 0).1
    have hs := scopedRest0_eq (Ix := Unit) (Val := Elt F) (Name := ℕ) (U := UU nD τ) (Lvl := ℕ) c
    unfold Φt; rw [if_pos (Or.inl rfl)]; unfold idle
    iintro ⟨⟨H9, HA, HB⟩, Hp, Hs⟩
    ihave Hp := (Entails.of_eq hp) $$ Hp
    ihave Hs := (Entails.of_eq hs) $$ Hs
    icases Hp with ⟨H0, H1⟩
    icases Hs with ⟨HbA, HbB⟩
    isplitl [H0 H1]
    · isplitl [H0]; · iexact H0
      iexact H1
    isplitl [HA]; · iexact HA
    isplitl [HB]; · iexact HB
    isplitl [HbA]; · iexact HbA
    isplitl [HbB]; · iexact HbB
    iexact H9
  hout c := by
    have hs := scopedRest0_eq (Ix := Unit) (Val := Elt F) (Name := ℕ) (U := UU nD τ) (Lvl := ℕ) c
    have hΦ : (dats m ρ 0 c).Φ (Fin.last (Pipeline.pin (pcfgs (F := F)) (adm m) 0).N) = Φt c (w1 m) (w2 m) (Yv m c) 64 := Φ_last m ρ c
    rw [ownSems0_eq, hΦ]
    unfold Φt; rw [if_pos (Or.inr le_rfl)]; unfold idle
    iintro ⟨Ht, HA, HB, HbA, HbB, H9⟩
    isplitl [Ht H9]
    · isplitl [Ht]; · iexact Ht
      iexact H9
    isplitl [HA HB]
    · isplitl [HA]; · iexact HA
      iexact HB
    iapply (Entails.of_eq hs.symm)
    isplitl [HbA]; · iexact HbA
    iexact HbB
  hexit c := by
    iintro ⟨Ha, HO, HY, HZ⟩
    imodintro
    isplitr [HO]
    · isplitl [Ha]; · iexact Ha
      isplitl [HY]; · iexact HY
      iexact HZ
    · unfold Pipeline.Dat.owesAt Pipeline.owesWithin
      icases HO with ⟨%W, -, HO⟩; iexists W; iexact HO

/-- @main as its two segments. -/
abbrev segs : List (Pipeline.Seg (pcfgs (F := F)) (adm m) (dats m ρ) () defs₀ Variants.none L lv) := [.host (seg0 m ρ), .region (reg0 m ρ hw1 hw2)]

/-- What a final state holds on core `c`: the windows' arrays as the pipeline leaves them; every other argument as launched. -/
def QC (c : Dev nD) (s : MemSt nD τ sig (Elt F)) : Prop :=
  (∀ w : Fin (cfgM m).W, s.mem (((cfgM m).win w).arr.view.loc (c : Thread nD τ)) = (dats m ρ 0 c).arrAt w (cfgM m).N)
    ∧ s.mem ((c : Thread nD τ).loc main_arg0) = m ((c : Thread nD τ).loc main_arg0) ∧ s.mem ((c : Thread nD τ).loc main_arg1) = m ((c : Thread nD τ).loc main_arg1) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6) ∧ s.mem ((c : Thread nD τ).loc main_arg7) = m ((c : Thread nD τ).loc main_arg7) ∧ s.mem ((c : Thread nD τ).loc main_arg8) = m ((c : Thread nD τ).loc main_arg8) ∧ s.mem ((c : Thread nD τ).loc main_arg9) = m ((c : Thread nD τ).loc main_arg9)

include hw1 hw2 in
set_option backward.isDefEq.respectTransparency.types false in
/-- The run. -/
theorem run_main : θ_run defs (onTc (τ := τ) (main (F := F))) (s₀ m ρ) (fun r => (∀ c, QC m ρ c r.2) ∧ r.2.sem = fun _ => 0) :=
  Pipeline.θ_run_regions_kit_sems (pcfgs (F := F)) (adm m) (dats m ρ) () (cellOf_inj (adm m)) EP defs₀ Variants.none L lv m ρ main (segs m ρ hw1 hw2)
    (fun c Q => by rw [main_segs (adm m) (dats m ρ) () Variants.none L lv (seg0 m ρ) (reg0 m ρ hw1 hw2) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := QC m ρ)
    (hfin := fun c s' => by
      obtain rfl : c = 0 := Subsingleton.elim _ _
      dsimp only [Tₙ]
      iintro ⟨⟨Ha, ⟨⟨H0, H1⟩, H9⟩, H4, H5, H6, H7, H8⟩, HSI⟩
      icombine HSI H0 gives %h0
      icombine HSI H1 gives %h1
      icombine HSI H4 gives %h4
      icombine HSI H5 gives %h5
      icombine HSI H6 gives %h6
      icombine HSI H7 gives %h7
      icombine HSI H8 gives %h8
      icombine HSI H9 gives %h9
      ihave Hr := (Pipeline.arrays_read (pcfgs (F := F)) (adm m) (dats m ρ) (launch0 (F := F)).arr_whole 0 ((dats m ρ 0 0).share_full fun _ => rfl) _ s') $$ [Ha HSI]
      · isplitl [Ha] <;> iassumption
      icases Hr with ⟨%ha, HSI⟩
      imodintro
      isplitr
      · ipureintro
        exact ⟨ha, Buf.eq_of_forall_mem_univ h0, Buf.eq_of_forall_mem_univ h1, Buf.eq_of_forall_mem_univ h4, Buf.eq_of_forall_mem_univ h5, Buf.eq_of_forall_mem_univ h6, Buf.eq_of_forall_mem_univ h7, Buf.eq_of_forall_mem_univ h8, Buf.eq_of_forall_mem_univ h9⟩
      iexact HSI)
    (hQ := fun _ h hz => ⟨h, funext fun g => hz g (.inr (by revert g; decide))⟩)

end Cert.Proof.Ple
-- ==== Proof.Ple.Frame.lean ====
/-
  The frames of the last call and of its reference. The precondition's bit gives the bound on both tables; the run
  (`run_main`) then gives the frame of the ideal program, and, read at bit patterns, that of the kernel, whose text is the
  same.
-/
module

public import proofs.«01_k».proof.Defs
public import proofs.«01_k».proof.Proof.Ple.Run
public import proofs.«01_k».proof.Proof.Gen.Kernel
public import proofs.«01_k».proof.Proof.Gen.ReferenceIdeal.Run
public import proofs.«01_k».proof.Proof.Gen.Pre_positions_in_pack
public import Idealize.ShloMosaic.Lib.ReduceAll

@[expose] public section

set_option maxRecDepth 16384

noncomputable section

namespace Cert.Proof.Ple

open Idealize.ShloMosaic Idealize.SL.Sem
open Idealize.ShloMosaic.TcCoe

variable {F : FTy → Type} [FloatOps F]

/-- A word that is at least 0 and below 81920 as a signed number is below 81920 as a natural one. -/
theorem toNat_lt_of_bits (w : BitVec 32) (h0 : BitVec.ofBool ((0#32).sle w) = 1#1)
    (h1 : BitVec.ofBool (w.slt 81920#32) = 1#1) : w.toNat < 81920 := by
  have ho : ∀ p : Bool, (BitVec.ofBool p = 1#1) ↔ p = true := fun p => by cases p <;> decide
  rw [ho] at h0 h1
  rw [BitVec.sle_eq_decide, decide_eq_true_eq] at h0
  rw [BitVec.slt_eq_decide, decide_eq_true_eq] at h1
  have e0 : (0#32 : BitVec 32).toInt = 0 := by decide
  have e1 : (81920#32 : BitVec 32).toInt = 81920 := by decide
  rw [e0] at h0; rw [e1] at h1
  rw [BitVec.toInt_eq_toNat_cond] at h0 h1
  split at h0 <;> omega

/-- What the precondition says of the two tables. -/
theorem tables_lt (a0 a1 : IVec Cert.KernelIdeal.S32768 32) (a2 : FVec F Cert.KernelIdeal.S32768x1024 .f32) (a3 : FVec F Cert.KernelIdeal.S32768x128 .f32)
    (a4 : FVec F Cert.KernelIdeal.S16x2048x256 .f32) (a5 : FVec F Cert.KernelIdeal.S1024 .f32) (a6 : FVec F Cert.KernelIdeal.S1024x1024 .f32) (a7 : FVec F Cert.KernelIdeal.S256x1024 .f32)
    (a8 : FVec F Cert.KernelIdeal.S1024 .f32) (a9 : FVec F Cert.KernelIdeal.S81920x1024 .f32)
    (h : Cert.Pre_positions_in_pack.fn (F := F) a0 a1 a2 a3 a4 a5 a6 a7 a8 a9 = fun _ => 1#1) (n : Cert.KernelIdeal.S32768.Idx) :
    (a0 n).toNat < 81920 ∧ (a1 n).toNat < 81920 := by
  have e := congrFun h (fun i => i.elim0)
  simp only [Cert.Pre_positions_in_pack.fn] at e
  haveI : Subsingleton (Cert.Pre_positions_in_pack.S_).Idx := ⟨fun a b => funext fun i => i.elim0⟩
  have e := Host.reduce_andi_all _ _ _ _ _ e n
  simp only [andi, cmpi, broadcastInDim, constantI, IntOp.cmpi] at e
  have ha : ∀ p q : BitVec 1, IntOp.andi p q = 1#1 ↔ p = 1#1 ∧ q = 1#1 := by decide
  rw [ha, ha, ha] at e
  exact ⟨toNat_lt_of_bits _ e.1.1.1 e.1.1.2, toNat_lt_of_bits _ e.1.2 e.2⟩

section

open Cert.KernelIdeal Cert.KernelIdeal.Gen

variable (m : (ℓ : Loc nD τ sig) → Buf (Elt F) ℓ) (ρ : Dev nD → PrngReg)

/-- The arguments after the run, window by window and buffer by buffer. -/
theorem args_kept (c : Dev nD) (s : MemSt nD τ sig (Elt F)) (h : QC m ρ c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)
    ∧ s.mem ((c : Thread nD τ).loc main_arg8) = m ((c : Thread nD τ).loc main_arg8)
    ∧ s.mem ((c : Thread nD τ).loc main_arg9) = m ((c : Thread nD τ).loc main_arg9) := by
  obtain ⟨hw, h0, h1, h4, h5, h6, h7, h8, h9⟩ := h
  refine ⟨h0, h1, ?_, ?_, h4, h5, h6, h7, h8, h9⟩
  · exact ((hw 0).trans ((dats m ρ 0 c).arrAt_in 0 rfl _)).trans ((A_eq m ρ c 0).trans (V_eq m ρ c main_arg2 (by decide)))
  · exact ((hw 1).trans ((dats m ρ 0 c).arrAt_in 1 rfl _)).trans ((A_eq m ρ c 1).trans (V_eq m ρ c main_arg3 (by decide)))

end

/-- The ideal program's frame. -/
theorem frame_ideal : Cert.quiescent_KernelIdeal := fun m ρ hpre =>
  (θ_run Cert.KernelIdeal.defs _ _).mono (fun _ h => ⟨fun c => args_kept m ρ c _ (h.1 c), h.2⟩)
    (run_main (F := Ideal) m ρ (fun n => (tables_lt _ _ _ _ _ _ _ _ _ _ (hpre 0) n).1) (fun n => (tables_lt _ _ _ _ _ _ _ _ _ _ (hpre 0) n).2))

/-- The kernel's text is the ideal program's: the body, -/
theorem same_body : @Cert.Kernel.cc0_ple F _ _ = @Cert.KernelIdeal.cc0_ple F _ _ := rfl

/-- the label's meaning, -/
theorem same_defs₀ : @Cert.Kernel.defs₀ F _ _ = @Cert.KernelIdeal.defs₀ F _ _ := by
  funext p ℓ a
  cases p with
  | tc =>
    have hℓ : ℓ = (0 : Fin 1) := Subsingleton.elim (α := Fin 1) _ _
    subst hℓ
    obtain ⟨t, s⟩ := a
    rfl
  | scScalar _ => rfl
  | scVector _ _ => rfl

/-- the pipeline round it, -/
theorem same_defs : @Cert.Kernel.defs F _ _ = @Cert.KernelIdeal.defs F _ _ :=
  congrArg (Pipeline.defs (Cert.KernelIdeal.pcfgs (F := F))) same_defs₀

/-- and @main. -/
theorem same_main : @Cert.Kernel.main F _ _ = @Cert.KernelIdeal.main F _ _ := rfl

/-- The kernel's frame: the same run, at bit patterns. -/
theorem frame_kernel : Cert.quiescent_Kernel := fun m ρ hpre => by
  rw [same_defs, same_main]
  exact (θ_run Cert.KernelIdeal.defs _ _).mono (fun _ h => ⟨fun c => args_kept m ρ c _ (h.1 c), h.2⟩)
    (run_main (F := Bits) m ρ (fun n => (tables_lt _ _ _ _ _ _ _ _ _ _ (hpre 0) n).1) (fun n => (tables_lt _ _ _ _ _ _ _ _ _ _ (hpre 0) n).2))

/-- The reference's frame, with and without the precondition. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_pre : Cert.quiescent_ReferenceIdeal_pre_positions_in_pack := fun m ρ _ => frame_ref m ρ trivial

end Cert.Proof.Ple

end
-- ==== Proof.Ple.RowMath.lean ====
/-
  One row of the last call over the extended reals: the norm's factor, the gate, and the row that comes out of a row of
  `x`, a row of the embedding and the weights.
-/
module

public import Idealize.ShloMosaic.Lib.Pointwise
public import Mathlib.Analysis.SpecialFunctions.Trigonometric.DerivHyp

@[expose] public section

noncomputable section

namespace Cert.Proof.Ple

open Idealize.ShloMosaic

/-- The factor of a row's root-mean-square norm: one over the root of the mean square plus epsilon. -/
def nrm {n : ℕ} (x : Fin n → EReal) : EReal :=
  Ideal.rsqrt (Ideal.div (∑ k, x k * x k) (Ideal.ofBits .f32 0x44800000#32) + Ideal.ofBits .f32 0x358637BD#32)

/-- The gate, as the reference writes it. -/
def gate (z : EReal) : EReal := Ideal.div 1 (1 + Ideal.exp (-z))

/-- The row after the gated embedding is added; -/
def rowX (x : Fin 1024 → EReal) (p : Fin 256 → EReal) (n : Fin 1024 → EReal) (wg : Fin 1024 → Fin 1024 → EReal)
    (wp : Fin 256 → Fin 1024 → EReal) (l : Fin 1024) : EReal :=
  x l + gate (∑ k, (x k * nrm x * n k) * wg k l) * ∑ k, p k * wp k l

/-- and after the final norm. -/
def rowOut (x : Fin 1024 → EReal) (p : Fin 256 → EReal) (n : Fin 1024 → EReal) (wg : Fin 1024 → Fin 1024 → EReal)
    (wp : Fin 256 → Fin 1024 → EReal) (fn : Fin 1024 → EReal) (l : Fin 1024) : EReal :=
  rowX x p n wg wp l * nrm (rowX x p n wg wp) * fn l

/-- The pattern `0x3F000000` is one half. -/
theorem ofBits_half : Ideal.ofBits .f32 0x3F000000#32 = ((1 / 2 : ℝ) : EReal) := by
  simp [Ideal.ofBits, Ideal.ieee, -EReal.coe_mul]; norm_num

/-- The kernel's gate, half the hyperbolic tangent of half the argument plus a half, is the reference's. -/
theorem half_tanh (z : EReal) :
    Ideal.ofBits .f32 0x3F000000#32 * Ideal.tanh (Ideal.ofBits .f32 0x3F000000#32 * z) + Ideal.ofBits .f32 0x3F000000#32 = gate z := by
  rw [ofBits_half]
  have hl : gate z = Ideal.logistic z := rfl
  rw [hl]
  induction z using EReal.rec with
  | bot =>
    rw [Ideal.logistic_bot, EReal.coe_mul_bot_of_pos (by norm_num), Ideal.tanh_bot, ← EReal.coe_one, ← EReal.coe_neg,
      ← EReal.coe_mul, ← EReal.coe_add]
    norm_num
  | top =>
    rw [Ideal.logistic_top, EReal.coe_mul_top_of_pos (by norm_num), Ideal.tanh_top]
    norm_cast; norm_num
  | coe r =>
    rw [Ideal.logistic_coe, ← EReal.coe_mul, Ideal.tanh_coe, ← EReal.coe_mul, ← EReal.coe_add]
    congr 1
    rw [Real.tanh_eq_sinh_div_cosh, Real.sinh_eq, Real.cosh_eq]
    have h1 : Real.exp (-(1 / 2 * r)) = (Real.exp (1 / 2 * r))⁻¹ := Real.exp_neg _
    have h2 : Real.exp (-r) = (Real.exp (1 / 2 * r))⁻¹ * (Real.exp (1 / 2 * r))⁻¹ := by
      rw [← Real.exp_neg, ← Real.exp_add]; congr 1; ring
    rw [h1, h2]
    have hp := Real.exp_pos (1 / 2 * r)
    generalize Real.exp (1 / 2 * r) = e at hp
    have he : e ≠ 0 := hp.ne'
    have h3 : e * e + 1 ≠ 0 := by positivity
    field_simp
    ring

end Cert.Proof.Ple

end
-- ==== Proof.Ple.Block.lean ====
/-
  What one tile computes over the extended reals: the body's stored value, row by row, is `rowOut` of the tile's rows.
-/
module

public import proofs.«01_k».proof.Proof.Ple.Body
public import proofs.«01_k».proof.Proof.Ple.RowMath
public import Idealize.ShloMosaic.Lib.Pointwise

@[expose] public section

set_option maxRecDepth 16384

noncomputable section

namespace Cert.Proof.Ple

open Cert.KernelIdeal Cert.KernelIdeal.Gen
open Idealize.ShloMosaic

/-- The row of `x` with the two weighted rows of `y` added. -/
theorem pay3_apply (rt : FVec Ideal S512x128 .f32) (x : FVec Ideal S512x1024 .f32) (p0 p1 : FVec Ideal S1x512x1024 .f32) (r : Fin 512) (l : Fin 1024) :
    k0_pay3 (F := Ideal) rt x p0 p1 (ix2 r l) = x (ix2 r l) + rt (ix2 r 0) * p0 (ix3 0 r l) + rt (ix2 r 1) * p1 (ix3 0 r l) := by
  pointwise [k0_pay3]

theorem pay4_apply (rt : FVec Ideal S512x128 .f32) (x : FVec Ideal S512x1024 .f32) (p0 p1 : FVec Ideal S1x512x1024 .f32) (n : FVec Ideal S1x1024 .f32) (r : Fin 512) (l : Fin 1024) :
    k0_pay4 (F := Ideal) rt x p0 p1 n (ix2 r l)
      = k0_pay3 (F := Ideal) rt x p0 p1 (ix2 r l) * nrm (fun k : Fin 1024 => k0_pay3 (F := Ideal) rt x p0 p1 (ix2 r k)) * n (ix2 0 l) := by
  pointwise [k0_pay4, nrm]

theorem pay11_apply (a h : FVec Ideal S512x1024 .f32) (wg : Vec Ideal S1024x1024 .bf16) (p : Vec Ideal S512x256 .f32) (wp : Vec Ideal S256x1024 .bf16) (f : Vec Ideal S1x1024 .f32) (r : Fin 512) (l : Fin 1024) :
    k0_pay11 (F := Ideal) a h wg p wp f (ix2 r l)
      = (fun x3 : Fin 1024 → EReal => x3 l * nrm x3 * f (ix2 0 l))
        (fun l => a (ix2 r l) + gate (∑ k : Fin 1024, h (ix2 r k) * wg (ix2 k l)) * ∑ k : Fin 256, p (ix2 r k) * wp (ix2 k l)) := by
  simp only [← half_tanh]
  pointwise [k0_pay11, nrm]

end Cert.Proof.Ple

end
-- ==== Proof.Ple.Array.lean ====
/-
  What the last call leaves in its result array over the extended reals: row `n` is `rowOut` of row `n` of the arguments
  and of the two rows of `y` that the tables name at `n`.
-/
module

public import proofs.«01_k».proof.Proof.Ple.Run
public import proofs.«01_k».proof.Proof.Ple.Block
public import Idealize.ShloMosaic.Lib.Pipeline.Value

@[expose] public section

set_option maxRecDepth 16384

noncomputable section

namespace Cert.Proof.Ple

open Cert.KernelIdeal Cert.KernelIdeal.Gen
open Idealize.ShloMosaic Idealize.ShloMosaic.TcCoe Idealize.SL.Sem
open Idealize.ShloMosaic.Pipeline (Dat)

/-! ## Where the blocks lie -/

theorem tile_rows : ∀ t : Fin grid0.N, (cc0_transform_0 (grid0.coords t) 0 = t.val ∧ cc0_transform_0 (grid0.coords t) 1 = 0)
    ∧ (cc0_transform_1 (grid0.coords t) 0 = t.val ∧ cc0_transform_1 (grid0.coords t) 1 = 0)
    ∧ (cc0_transform_2 (grid0.coords t) 0 = t.val ∧ cc0_transform_2 (grid0.coords t) 1 = 0)
    ∧ (cc0_transform_8 (grid0.coords t) 0 = t.val ∧ cc0_transform_8 (grid0.coords t) 1 = 0) := by decide +kernel

/-- Row `r` of tile `t`. -/
abbrev tileRow (t : Fin grid0.N) (r : Fin 512) : Fin 32768 := ⟨512 * t.val + r.val, by have h : t.val < 64 := t.isLt; omega⟩

section

variable {F : FTy → Type} [FloatOps F]
variable (m : (ℓ : Loc nD τ sig) → Buf (Elt F) ℓ) (ρ : Dev nD → PrngReg) (c : Dev nD)

theorem V_v0 : (V m ρ c main_v0 : FVec F S32768x256 .f32) = shapeCast S32768x256 (m ((c : Thread nD τ).loc main_arg4)) shapeCasts_S16x2048x256_S32768x256 := rfl
theorem V_v1 : (V m ρ c main_v1 : FVec F S1x1024 .f32) = shapeCast S1x1024 (m ((c : Thread nD τ).loc main_arg5)) shapeCasts_S1024_S1x1024 := rfl
theorem V_v2 : (V m ρ c main_v2 : FVec F S1024x1024 .bf16) = truncf (F := F) .bf16 (m ((c : Thread nD τ).loc main_arg6)) bitsLt_bf16_f32 := rfl
theorem V_v3 : (V m ρ c main_v3 : FVec F S256x1024 .bf16) = truncf (F := F) .bf16 (m ((c : Thread nD τ).loc main_arg7)) bitsLt_bf16_f32 := rfl
theorem V_v4 : (V m ρ c main_v4 : FVec F S1x1024 .f32) = shapeCast S1x1024 (m ((c : Thread nD τ).loc main_arg8)) shapeCasts_S1024_S1x1024 := rfl

theorem iblk0 (t : Fin grid0.N) (r : Fin 512) (k : Fin 1024) :
    (iblk m ρ c 0 t : Vec F S512x1024 .f32) (ix2 r k) = (m ((c : Thread nD τ).loc main_arg2) : FVec F S32768x1024 .f32) (ix2 (tileRow t r) k) := by
  refine (View.read_apply _ _).trans ?_
  show V m ρ c main_arg2 _ = _
  rw [V_eq m ρ c main_arg2 (by decide)]
  congr 1
  funext a
  apply Fin.ext
  match a with
  | ⟨0, _⟩ => show cc0_transform_0 (grid0.coords t) 0 * 512 + 1 * r.val = 512 * t.val + r.val; rw [(tile_rows t).1.1]; omega
  | ⟨1, _⟩ => show cc0_transform_0 (grid0.coords t) 1 * 1024 + 1 * k.val = k.val; rw [(tile_rows t).1.2]; omega

theorem iblk1 (t : Fin grid0.N) (r : Fin 512) (k : Fin 128) :
    (iblk m ρ c 1 t : Vec F S512x128 .f32) (ix2 r k) = (m ((c : Thread nD τ).loc main_arg3) : FVec F S32768x128 .f32) (ix2 (tileRow t r) k) := by
  refine (View.read_apply _ _).trans ?_
  show V m ρ c main_arg3 _ = _
  rw [V_eq m ρ c main_arg3 (by decide)]
  congr 1
  funext a
  apply Fin.ext
  match a with
  | ⟨0, _⟩ => show cc0_transform_1 (grid0.coords t) 0 * 512 + 1 * r.val = 512 * t.val + r.val; rw [(tile_rows t).2.1.1]; omega
  | ⟨1, _⟩ => show cc0_transform_1 (grid0.coords t) 1 * 128 + 1 * k.val = k.val; rw [(tile_rows t).2.1.2]; omega

theorem iblk2 (t : Fin grid0.N) (r : Fin 512) (k : Fin 256) :
    (iblk m ρ c 2 t : Vec F S512x256 .f32) (ix2 r k) = (V m ρ c main_v0 : FVec F S32768x256 .f32) (ix2 (tileRow t r) k) := by
  refine (View.read_apply _ _).trans ?_
  show V m ρ c main_v0 _ = _
  congr 1
  funext a
  apply Fin.ext
  match a with
  | ⟨0, _⟩ => show cc0_transform_2 (grid0.coords t) 0 * 512 + 1 * r.val = 512 * t.val + r.val; rw [(tile_rows t).2.2.1.1]; omega
  | ⟨1, _⟩ => show cc0_transform_2 (grid0.coords t) 1 * 256 + 1 * k.val = k.val; rw [(tile_rows t).2.2.1.2]; omega

theorem iblk3 (t : Fin grid0.N) (r : Fin 1) (k : Fin 1024) :
    (iblk m ρ c 3 t : Vec F S1x1024 .f32) (ix2 r k) = (V m ρ c main_v1 : FVec F S1x1024 .f32) (ix2 r k) := by
  refine (View.read_apply _ _).trans ?_
  show V m ρ c main_v1 _ = _
  congr 1
  funext a
  apply Fin.ext
  match a with
  | ⟨0, _⟩ => show 0 * 1 + 1 * r.val = r.val; omega
  | ⟨1, _⟩ => show 0 * 1024 + 1 * k.val = k.val; omega

theorem iblk4 (t : Fin grid0.N) (r : Fin 1024) (k : Fin 1024) :
    (iblk m ρ c 4 t : Vec F S1024x1024 .bf16) (ix2 r k) = (V m ρ c main_v2 : FVec F S1024x1024 .bf16) (ix2 r k) := by
  refine (View.read_apply _ _).trans ?_
  show V m ρ c main_v2 _ = _
  congr 1
  funext a
  apply Fin.ext
  match a with
  | ⟨0, _⟩ => show 0 * 1024 + 1 * r.val = r.val; omega
  | ⟨1, _⟩ => show 0 * 1024 + 1 * k.val = k.val; omega

theorem iblk5 (t : Fin grid0.N) (r : Fin 256) (k : Fin 1024) :
    (iblk m ρ c 5 t : Vec F S256x1024 .bf16) (ix2 r k) = (V m ρ c main_v3 : FVec F S256x1024 .bf16) (ix2 r k) := by
  refine (View.read_apply _ _).trans ?_
  show V m ρ c main_v3 _ = _
  congr 1
  funext a
  apply Fin.ext
  match a with
  | ⟨0, _⟩ => show 0 * 256 + 1 * r.val = r.val; omega
  | ⟨1, _⟩ => show 0 * 1024 + 1 * k.val = k.val; omega

theorem iblk6 (t : Fin grid0.N) (r : Fin 1) (k : Fin 1024) :
    (iblk m ρ c 6 t : Vec F S1x1024 .f32) (ix2 r k) = (V m ρ c main_v4 : FVec F S1x1024 .f32) (ix2 r k) := by
  refine (View.read_apply _ _).trans ?_
  show V m ρ c main_v4 _ = _
  congr 1
  funext a
  apply Fin.ext
  match a with
  | ⟨0, _⟩ => show 0 * 1 + 1 * r.val = r.val; omega
  | ⟨1, _⟩ => show 0 * 1024 + 1 * k.val = k.val; omega

end

/-! ## The array -/

/-- Row `n` of the two weighted rows of `y` added to `x`. -/
def mixedRow (w1 w2 : S32768.Idx → BitVec 32) (X : FVec Ideal S32768x1024 .f32) (RT : FVec Ideal S32768x128 .f32) (Y : FVec Ideal S81920x1024 .f32)
    (n : Fin 32768) (k : Fin 1024) : EReal :=
  X (ix2 n k) + RT (ix2 n 0) * Y (ix2 (rowAt w1 n.val) k) + RT (ix2 n 1) * Y (ix2 (rowAt w2 n.val) k)

/-- The result array. -/
def pleOut (w1 w2 : S32768.Idx → BitVec 32) (X : FVec Ideal S32768x1024 .f32) (RT : FVec Ideal S32768x128 .f32) (P : FVec Ideal S32768x256 .f32)
    (n : FVec Ideal S1024 .f32) (wg : FVec Ideal S1024x1024 .f32) (wp : FVec Ideal S256x1024 .f32) (f : FVec Ideal S1024 .f32)
    (Y : FVec Ideal S81920x1024 .f32) : FVec Ideal S32768x1024 .f32 := fun i =>
  rowOut (mixedRow w1 w2 X RT Y (i 0)) (fun k => P (ix2 (i 0) k)) (fun k => n (ix1 k)) (fun k l => wg (ix2 k l)) (fun k l => wp (ix2 k l))
    (fun k => f (ix1 k)) (i 1)

/-- The tile's stored value, row by row. -/
theorem outv_apply (x0 : Vec Ideal S512x1024 .f32) (x1 : Vec Ideal S512x128 .f32) (x2 : Vec Ideal S512x256 .f32) (x3 : Vec Ideal S1x1024 .f32)
    (x4 : Vec Ideal S1024x1024 .bf16) (x5 : Vec Ideal S256x1024 .bf16) (x6 : Vec Ideal S1x1024 .f32) (b : Vec Ideal S2x512x1024 .f32)
    (r : Fin 512) (l : Fin 1024) :
    outv (F := Ideal) x0 x1 x2 x3 x4 x5 x6 b (ix2 r l)
      = rowOut (fun k => x0 (ix2 r k) + x1 (ix2 r 0) * b (ix3 0 r k) + x1 (ix2 r 1) * b (ix3 1 r k)) (fun k => x2 (ix2 r k))
          (fun k => x3 (ix2 0 k)) (fun k l => x4 (ix2 k l)) (fun k l => x5 (ix2 k l)) (fun k => x6 (ix2 0 k)) l := by
  have hz : (![0, 0] : Fin 2 → Nat) = fun _ => 0 := funext fun a => by fin_cases a <;> rfl
  unfold outv
  rw [View.canon_unit_zero hz, View.ld_unit_zero hz, View.ld_unit_zero hz, View.ld_unit_zero hz, View.ld_unit_zero hz, View.ld_unit_zero hz,
    View.ld_unit_zero hz, View.ld_unit_zero hz, pay11_apply]
  simp only [pay4_apply, pay3_apply]
  pointwise [rowOut, rowX]
  rfl

/-- The same with the blocks' rows named. -/
theorem outv_eq (x0 : Vec Ideal S512x1024 .f32) (x1 : Vec Ideal S512x128 .f32) (x2 : Vec Ideal S512x256 .f32) (x3 : Vec Ideal S1x1024 .f32)
    (x4 : Vec Ideal S1024x1024 .bf16) (x5 : Vec Ideal S256x1024 .bf16) (x6 : Vec Ideal S1x1024 .f32) (b : Vec Ideal S2x512x1024 .f32)
    (r : Fin 512) (l : Fin 1024) (X : Fin 1024 → EReal) (RT : Fin 128 → EReal) (P : Fin 256 → EReal) (n : Fin 1024 → EReal)
    (wg : Fin 1024 → Fin 1024 → EReal) (wp : Fin 256 → Fin 1024 → EReal) (f : Fin 1024 → EReal)
    (h0 : ∀ k, x0 (ix2 r k) = X k) (h1 : ∀ k, x1 (ix2 r k) = RT k) (h2 : ∀ k, x2 (ix2 r k) = P k) (h3 : ∀ k, x3 (ix2 0 k) = n k)
    (h4 : ∀ k l, x4 (ix2 k l) = wg k l) (h5 : ∀ k l, x5 (ix2 k l) = wp k l) (h6 : ∀ k, x6 (ix2 0 k) = f k) :
    outv (F := Ideal) x0 x1 x2 x3 x4 x5 x6 b (ix2 r l)
      = rowOut (fun k => X k + RT 0 * b (ix3 0 r k) + RT 1 * b (ix3 1 r k)) P n wg wp f l := by
  rw [outv_apply]
  simp only [h0, h1, h2, h3, h4, h5, h6]

/-- A vector laid out as one row. -/
theorem vec_row (a : FVec Ideal S1024 .f32) (k : Fin 1024) :
    (shapeCast S1x1024 a shapeCasts_S1024_S1x1024 : FVec Ideal S1x1024 .f32) (ix2 0 k) = a (ix1 k) := by
  pointwise []

section

variable (m : (ℓ : Loc nD τ sig) → Buf (Elt Ideal) ℓ) (ρ : Dev nD → PrngReg) (c : Dev nD)

/-- The result array in a run from `m`. -/
def result : FVec Ideal S32768x1024 .f32 :=
  pleOut (w1 m) (w2 m) (m ((c : Thread nD τ).loc main_arg2)) (m ((c : Thread nD τ).loc main_arg3))
    (shapeCast S32768x256 (m ((c : Thread nD τ).loc main_arg4) : FVec Ideal S16x2048x256 .f32) shapeCasts_S16x2048x256_S32768x256)
    (m ((c : Thread nD τ).loc main_arg5)) (m ((c : Thread nD τ).loc main_arg6)) (m ((c : Thread nD τ).loc main_arg7))
    (m ((c : Thread nD τ).loc main_arg8)) (m ((c : Thread nD τ).loc main_arg9))

/-- What tile `t` stores is its rows of the result array. -/
theorem outAt_apply (t : Fin grid0.N) (r : Fin 512) (l : Fin 1024) :
    outAt m ρ c t (ix2 r l) = result m c (ix2 (tileRow t r) l) := by
  refine (outv_eq (iblk m ρ c 0 t) (iblk m ρ c 1 t) (iblk m ρ c 2 t) (iblk m ρ c 3 t) (iblk m ρ c 4 t) (iblk m ρ c 5 t) (iblk m ρ c 6 t)
    (tileVal (w1 m) (w2 m) (Yv m c) t.val) r l _ _ _ _ _ _ _ (iblk0 m ρ c t r) (iblk1 m ρ c t r) (iblk2 m ρ c t r) (fun k => (iblk3 m ρ c t 0 k).trans ((congrFun (V_v1 m ρ c) _).trans (vec_row _ k)))
    (iblk4 m ρ c t) (iblk5 m ρ c t) (fun k => (iblk6 m ρ c t 0 k).trans ((congrFun (V_v4 m ρ c) _).trans (vec_row _ k)))).trans ?_
  rw [V_v0, V_v2, V_v3]
  rfl

theorem flush7 (t : Fin (cfgM m).N) : ((cfgM m).win 7).flush t = true := by
  refine (Pipeline.Window.flush_out _ rfl t).2 ?_
  by_cases h : t.val + 1 = (cfgM m).N
  · exact .inl h
  · have hlt : t.val + 1 < grid0.N := lt_of_le_of_ne t.isLt h
    refine .inr ⟨hlt, fun he => ?_⟩
    have h0 : cc0_transform_8 (grid0.coords ⟨t.val + 1, hlt⟩) 0 = cc0_transform_8 (grid0.coords t) 0 := congrFun he (0 : Fin 2)
    rw [(tile_rows ⟨t.val + 1, hlt⟩).2.2.2.1, (tile_rows t).2.2.2.1] at h0
    exact absurd h0 (Nat.succ_ne_self _)

theorem emb7 (t : Fin (cfgM m).N) (r : Fin 512) (l : Fin 1024) :
    (((cfgM m).win 7).blk t).view.emb (ix2 r l : S512x1024.Idx) = (ix2 (tileRow t r) l : S32768x1024.Idx) := by
  funext a
  apply Fin.ext
  match a with
  | ⟨0, _⟩ => show cc0_transform_8 (grid0.coords t) 0 * 512 + 1 * r.val = 512 * t.val + r.val; rw [(tile_rows t).2.2.2.1]; omega
  | ⟨1, _⟩ => show cc0_transform_8 (grid0.coords t) 1 * 1024 + 1 * l.val = l.val; rw [(tile_rows t).2.2.2.2]; omega

/-- The result array after the last tile. -/
theorem final : (dats m ρ 0 c).arrAt 7 (cfgM m).N = result m c := by
  refine (dats m ρ 0 c).arrAt_eq_of_cover 7 (result m c) (fun t _ => ?_) fun i => ?_
  · show ((cfgM m).win 7).cut ((cfgM m).grid.coords t) ((dats m ρ 0 c).after 7 t) = _
    rw [after_7 m ρ c t]
    show (outAt m ρ c t : Vec Ideal S512x1024 .f32) = _
    funext y
    obtain ⟨r, l, rfl⟩ : ∃ (r : Fin 512) (l : Fin 1024), y = (ix2 r l : S512x1024.Idx) := ⟨y 0, y 1, eq_ix2 y⟩
    refine (outAt_apply m ρ c t r l).trans ?_
    exact (congrArg (result m c) (emb7 m t r l)).symm
  · change S32768x1024.Idx at i
    have h0 : (i 0 : Nat) < 32768 := (i 0).isLt
    have hN : (cfgM m).N = 64 := N_0
    let t : Fin (cfgM m).N := ⟨(i 0 : Nat) / 512, by omega⟩
    refine ⟨t, flush7 m t, ?_⟩
    have e : (((cfgM m).win 7).blk t).view.emb (ix2 ⟨(i 0 : Nat) % 512, by omega⟩ (i 1) : S512x1024.Idx) = i := by
      refine (emb7 m t _ _).trans ?_
      funext a
      apply Fin.ext
      match a with
      | ⟨0, _⟩ => show 512 * ((i 0 : Nat) / 512) + (i 0 : Nat) % 512 = (i 0 : Nat); omega
      | ⟨1, _⟩ => rfl
    have := (((cfgM m).win 7).blk t).view.emb_mem_set (ix2 ⟨(i 0 : Nat) % 512, by omega⟩ (i 1) : S512x1024.Idx)
    rwa [e] at this

end

end Cert.Proof.Ple

end
-- ==== Proof.Ple.RefValue.lean ====
/-
  What the reference of the last call computes over the extended reals, at tables whose entries name rows of `y`: the
  array `pleOut` of the same arguments.
-/
module

public import proofs.«01_k».proof.Proof.Ple.Array
public import proofs.«01_k».proof.Proof.Gen.ReferenceIdeal.Run

@[expose] public section

set_option maxRecDepth 16384

noncomputable section

namespace Cert.Proof.Ple.Ref

open Cert.ReferenceIdeal Cert.ReferenceIdeal.Gen
open Idealize.ShloMosaic Idealize.ShloMosaic.TcCoe Idealize.SL.Sem

/-- A table's entries as row numbers: negative ones count from the end. -/
def rowsOf (a : IVec S32768 32) : IVec S32768x1 32 :=
  broadcastInDim S32768x1 ![0] bcast_S32768_S32768x1_0
    (select (cmpi .slt a (broadcastInDim S32768 ![] bcast_S_S32768 (constantI S_ 32 0#32)))
      (addi a (broadcastInDim S32768 ![] bcast_S_S32768 (constantI S_ 32 81920#32))) a)

/-- The rows of `y` that a table names. -/
def taken (y : FVec Ideal S81920x1024 .f32) (a : IVec S32768 32) : FVec Ideal S32768x1024 .f32 :=
  Host.gather gather_S81920x1024_S32768x1_S32768x1024_1_0_n_n_0_1_11024 y (rowsOf a)

def col0 (rt : FVec Ideal S32768x128 .f32) : FVec Ideal S32768x1024 .f32 :=
  broadcastInDim S32768x1024 ![0, 1] bcast_S32768x1_S32768x1024_0_1 (extractStridedSlice S32768x1 ![0, 0] rt slices_S32768x128_S32768x1_0_0)
def col1 (rt : FVec Ideal S32768x128 .f32) : FVec Ideal S32768x1024 .f32 :=
  broadcastInDim S32768x1024 ![0, 1] bcast_S32768x1_S32768x1024_0_1 (extractStridedSlice S32768x1 ![0, 1] rt slices_S32768x128_S32768x1_0_1)

/-- `x` with the two weighted rows added. -/
def mixed (a0 a1 : IVec S32768 32) (x : FVec Ideal S32768x1024 .f32) (rt : FVec Ideal S32768x128 .f32) (y : FVec Ideal S81920x1024 .f32) :
    FVec Ideal S32768x1024 .f32 :=
  addf x (addf (mulf (col0 rt) (taken y a0)) (mulf (col1 rt) (taken y a1)))

/-- The row-wise norm with its weight. -/
def normed (x : FVec Ideal S32768x1024 .f32) (w : FVec Ideal S1024 .f32) : FVec Ideal S32768x1024 .f32 :=
  mulf (mulf x (broadcastInDim S32768x1024 ![0, 1] bcast_S32768x1_S32768x1024_0_1
    (Host.rsqrt (addf (Host.divf (broadcastInDim S32768x1 ![0] bcast_S32768_S32768x1_0
      (Host.reduceAdd (mulf x x) (constant (F := Ideal) S_ .f32 0x00000000#32) reducesTo_S32768x1024_S32768_d1 h_S_))
        (broadcastInDim S32768x1 ![] bcast_S_S32768x1 (constant (F := Ideal) S_ .f32 0x44800000#32)))
      (broadcastInDim S32768x1 ![] bcast_S_S32768x1 (constant (F := Ideal) S_ .f32 0x358637BD#32))))))
    (broadcastInDim S32768x1024 ![0, 1] bcast_S1x1024_S32768x1024_0_1 (broadcastInDim S1x1024 ![1] bcast_S1024_S1x1024_1 w))

/-- The gate: one over one plus the exponential of the negated product. -/
def gated (h : FVec Ideal S32768x1024 .f32) (wg : FVec Ideal S1024x1024 .f32) : FVec Ideal S32768x1024 .f32 :=
  Host.divf (broadcastInDim S32768x1024 ![] bcast_S_S32768x1024 (constant (F := Ideal) S_ .f32 0x3F800000#32))
    (addf (broadcastInDim S32768x1024 ![] bcast_S_S32768x1024 (constant (F := Ideal) S_ .f32 0x3F800000#32))
      (Host.exp (Host.negf (Host.dotGeneral dot_S32768x1024_S1024x1024_S32768x1024_1_0_0_1_n_n none h wg))))

/-- The whole reference. -/
def whole (a0 a1 : IVec S32768 32) (x : FVec Ideal S32768x1024 .f32) (rt : FVec Ideal S32768x128 .f32) (p : FVec Ideal S32768x256 .f32)
    (n : FVec Ideal S1024 .f32) (wg : FVec Ideal S1024x1024 .f32) (wp : FVec Ideal S256x1024 .f32) (f : FVec Ideal S1024 .f32)
    (y : FVec Ideal S81920x1024 .f32) : FVec Ideal S32768x1024 .f32 :=
  normed (addf (mixed a0 a1 x rt y) (mulf (gated (normed (mixed a0 a1 x rt y) n) wg)
    (Host.dotGeneral dot_S32768x256_S256x1024_S32768x1024_1_0_0_1_n_n none p wp))) f

set_option maxHeartbeats 4000000 in
theorem res_eq (m : (ℓ : Loc nD τ sig) → Buf (Elt Ideal) ℓ) (c : Dev nD) :
    Value.res_main_v58 (F := Ideal) m c
      = whole (m ((c.tc : Thread nD τ).loc main_arg0)) (m ((c.tc : Thread nD τ).loc main_arg1)) (m ((c.tc : Thread nD τ).loc main_arg2))
        (m ((c.tc : Thread nD τ).loc main_arg3))
        (shapeCast S32768x256 (m ((c.tc : Thread nD τ).loc main_arg4) : FVec Ideal S16x2048x256 .f32) shapeCasts_S16x2048x256_S32768x256)
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := rfl

/-- A gathered row: the row number read signed and clamped to the last row. -/
theorem gather_apply (y : FVec Ideal S81920x1024 .f32) (ix : IVec S32768x1 32) (n : Fin 32768) (k : Fin 1024) :
    (Host.gather gather_S81920x1024_S32768x1_S32768x1024_1_0_n_n_0_1_11024 y ix : FVec Ideal S32768x1024 .f32) (ix2 n k)
      = y (ix2 ⟨min (ix (ix2 n 0)).toInt.toNat 81919, by omega⟩ k) := by
  unfold Host.gather
  congr 1
  funext a
  refine Fin.ext ?_
  match a with
  | ⟨0, _⟩ =>
    show GatherDims.start gather_S81920x1024_S32768x1_S32768x1024_1_0_n_n_0_1_11024 (ix2 n k) ix 0
      + GatherDims.batchCoord gather_S81920x1024_S32768x1_S32768x1024_1_0_n_n_0_1_11024 (ix2 n k) 0
      + GatherDims.offCoord gather_S81920x1024_S32768x1_S32768x1024_1_0_n_n_0_1_11024 (ix2 n k) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S81920x1024_S32768x1_S32768x1024_1_0_n_n_0_1_11024.startIndexMap from List.mem_singleton.mpr rfl)]
    have hsi : gather_S81920x1024_S32768x1_S32768x1024_1_0_n_n_0_1_11024.siIdx (ix2 n k)
        ⟨List.idxOf (0 : Fin 2) gather_S81920x1024_S32768x1_S32768x1024_1_0_n_n_0_1_11024.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    show GatherDims.start gather_S81920x1024_S32768x1_S32768x1024_1_0_n_n_0_1_11024 (ix2 n k) ix 1
      + GatherDims.batchCoord gather_S81920x1024_S32768x1_S32768x1024_1_0_n_n_0_1_11024 (ix2 n k) 1
      + GatherDims.offCoord gather_S81920x1024_S32768x1_S32768x1024_1_0_n_n_0_1_11024 (ix2 n k) 1 = _
    rw [GatherDims.batchCoord_eq_zero _ _ _ List.not_mem_nil]
    unfold GatherDims.start
    rw [dif_neg (by decide)]
    simp only [Nat.zero_add, Nat.add_zero]
    rfl

theorem rowsOf_apply (a : IVec S32768 32) (n : Fin 32768) (h : (a (ix1 n)).toNat < 81920) : rowsOf a (ix2 n 0) = a (ix1 n) := by
  have e : rowsOf a (ix2 n 0) = bif (a (ix1 n)).slt 0#32 then a (ix1 n) + 81920#32 else a (ix1 n) := by
    pointwise [rowsOf]
    cases hs : (a (ix1 n)).slt 0#32 <;> simp [Scalar.select, IntOp.cmpi, IntOp.addi, hs]
  rw [e]
  have hlt : (a (ix1 n)).slt 0#32 = false := by
    rw [BitVec.slt_eq_decide, decide_eq_false_iff_not, BitVec.toInt_eq_toNat_of_lt (by omega)]
    simp
  rw [hlt]; rfl

theorem taken_apply (y : FVec Ideal S81920x1024 .f32) (a : IVec S32768 32) (n : Fin 32768) (k : Fin 1024) (h : (a (ix1 n)).toNat < 81920) :
    taken y a (ix2 n k) = y (ix2 (rowAt a n.val) k) := by
  refine (gather_apply y (rowsOf a) n k).trans ?_
  congr 2
  apply Fin.ext
  show min (rowsOf a (ix2 n 0)).toInt.toNat 81919 = (posAt a n.val).toNat % 81920
  have hp : posAt a n.val = a (ix1 n) := by
    unfold posAt; congr 2; exact Fin.ext (Nat.mod_eq_of_lt n.isLt)
  rw [rowsOf_apply a n h, hp, BitVec.toInt_eq_toNat_of_lt (by omega), Int.toNat_natCast, Nat.mod_eq_of_lt h]
  omega

theorem mixed_apply (a0 a1 : IVec S32768 32) (x : FVec Ideal S32768x1024 .f32) (rt : FVec Ideal S32768x128 .f32) (y : FVec Ideal S81920x1024 .f32)
    (n : Fin 32768) (k : Fin 1024) (h0 : (a0 (ix1 n)).toNat < 81920) (h1 : (a1 (ix1 n)).toNat < 81920) :
    mixed a0 a1 x rt y (ix2 n k) = mixedRow a0 a1 x rt y n k := by
  have e : mixed a0 a1 x rt y (ix2 n k)
      = x (ix2 n k) + (rt (ix2 n 0) * taken y a0 (ix2 n k) + rt (ix2 n 1) * taken y a1 (ix2 n k)) := by
    pointwise [mixed, col0, col1]
  rw [e, taken_apply y a0 n k h0, taken_apply y a1 n k h1, ← add_assoc]
  rfl

theorem normed_apply (x : FVec Ideal S32768x1024 .f32) (w : FVec Ideal S1024 .f32) (n : Fin 32768) (k : Fin 1024) :
    normed x w (ix2 n k) = x (ix2 n k) * nrm (fun k => x (ix2 n k)) * w (ix1 k) := by
  pointwise [normed, nrm]

theorem gated_apply (h : FVec Ideal S32768x1024 .f32) (wg : FVec Ideal S1024x1024 .f32) (n : Fin 32768) (l : Fin 1024) :
    gated h wg (ix2 n l) = gate (∑ k : Fin 1024, h (ix2 n k) * wg (ix2 k l)) := by
  pointwise [gated, gate]

theorem proj_apply (p : FVec Ideal S32768x256 .f32) (wp : FVec Ideal S256x1024 .f32) (n : Fin 32768) (l : Fin 1024) :
    (Host.dotGeneral dot_S32768x256_S256x1024_S32768x1024_1_0_0_1_n_n none p wp : FVec Ideal S32768x1024 .f32) (ix2 n l)
      = ∑ k : Fin 256, p (ix2 n k) * wp (ix2 k l) := by
  pointwise []

/-- The reference's result is `pleOut` of its arguments. -/
theorem whole_eq (a0 a1 : IVec S32768 32) (x : FVec Ideal S32768x1024 .f32) (rt : FVec Ideal S32768x128 .f32) (p : FVec Ideal S32768x256 .f32)
    (w : FVec Ideal S1024 .f32) (wg : FVec Ideal S1024x1024 .f32) (wp : FVec Ideal S256x1024 .f32) (f : FVec Ideal S1024 .f32)
    (y : FVec Ideal S81920x1024 .f32) (h0 : ∀ n, (a0 (ix1 n)).toNat < 81920) (h1 : ∀ n, (a1 (ix1 n)).toNat < 81920) :
    whole a0 a1 x rt p w wg wp f y = pleOut a0 a1 x rt p w wg wp f y := by
  funext i
  obtain ⟨n, l, rfl⟩ : ∃ (n : Fin 32768) (l : Fin 1024), i = (ix2 n l : S32768x1024.Idx) := ⟨i 0, i 1, eq_ix2 i⟩
  have hx : ∀ k, (addf (mixed a0 a1 x rt y) (mulf (gated (normed (mixed a0 a1 x rt y) w) wg)
      (Host.dotGeneral dot_S32768x256_S256x1024_S32768x1024_1_0_0_1_n_n none p wp)) : FVec Ideal S32768x1024 .f32) (ix2 n k)
      = rowX (mixedRow a0 a1 x rt y n) (fun k => p (ix2 n k)) (fun k => w (ix1 k)) (fun k l => wg (ix2 k l)) (fun k l => wp (ix2 k l)) k := by
    intro k
    show mixed a0 a1 x rt y (ix2 n k) + gated (normed (mixed a0 a1 x rt y) w) wg (ix2 n k)
      * (Host.dotGeneral dot_S32768x256_S256x1024_S32768x1024_1_0_0_1_n_n none p wp : FVec Ideal S32768x1024 .f32) (ix2 n k) = _
    rw [gated_apply, proj_apply]
    simp only [normed_apply, mixed_apply a0 a1 x rt y n _ (h0 n) (h1 n)]
    rfl
  unfold whole
  rw [normed_apply]
  simp only [hx]
  rfl

end Cert.Proof.Ple.Ref

end
-- ==== Proof.Ple.Algebraic.lean ====
/-
  The last call against its reference: over the extended reals both leave `pleOut` of the arguments.
-/
module

public import proofs.«01_k».proof.Proof.Ple.Frame
public import proofs.«01_k».proof.Proof.Ple.RefValue

@[expose] public section

set_option maxRecDepth 16384

noncomputable section

namespace Cert.Proof.Ple

open Idealize.ShloMosaic Idealize.SL.Sem
open Idealize.ShloMosaic.TcCoe

/-- Kernel and reference compute the same array, at tables whose entries name rows of `y`. -/
theorem algebraic : Cert.algebraic_KernelIdeal_ReferenceIdeal := by
  intro m g m' g' hpre hargs
  have hb := fun n => tables_lt _ _ _ _ _ _ _ _ _ _ (hpre 0) n
  refine ⟨fun c => result m c, (θ_run Cert.KernelIdeal.defs _ _).mono (fun _ h c => ?_)
    (run_main (F := Ideal) m g (fun n => (hb n).1) (fun n => (hb n).2)),
    (θ_run Cert.ReferenceIdeal.defs _ _).mono (fun r h c => ?_) (Cert.ReferenceIdeal.Value.run (F := Ideal) m' g')⟩
  · exact ⟨((h.1 c).1 7).trans (final m g c), args_kept m g c _ (h.1 c)⟩
  · refine ⟨(h c).1.trans ?_, (h c).2⟩
    obtain rfl : c = (0 : Fin 1) := Subsingleton.elim (α := Fin 1) _ _
    obtain ⟨e0, e1, e2, e3, e4, e5, e6, e7, e8, e9⟩ := hargs (0 : Fin 1)
    rw [Ref.res_eq, e0, e1, e2, e3, e4, e5, e6, e7, e8, e9]
    exact Ref.whole_eq _ _ _ _ _ _ _ _ _ _ (fun n => (hb (ix1 n)).1) (fun n => (hb (ix1 n)).2)

end Cert.Proof.Ple

end
-- ==== Proof.InProj.Value.lean ====
/-
  The input projection over the extended reals: entry `(n, l)` of its three results side by side is the product of the
  normed row `n` with column `l` of the weights (`proj`), tile by tile in the kernel and over the whole arrays in the
  reference.
-/
module

public import proofs.«01_k».proof.Defs
public import proofs.«01_k».proof.Proof.Ple.RowMath
public import proofs.«01_k».proof.Proof.Gen.Kernel2Ideal.Value
public import proofs.«01_k».proof.Proof.Gen.Kernel2.Frame
public import proofs.«01_k».proof.Proof.Gen.Reference2Ideal.Run
public import Idealize.ShloMosaic.Lib.Pointwise

@[expose] public section

set_option maxRecDepth 16384

noncomputable section

namespace Cert.Proof.InProj

open Idealize.ShloMosaic Idealize.ShloMosaic.TcCoe Idealize.SL.Sem
open Cert.Proof.Ple (nrm)

/-- Row `n` of the flattened input: token `n % 2048` of sequence `n / 2048`. -/
abbrev seqOf (n : Fin 32768) : Fin 16 := ⟨n.val / 2048, by omega⟩
abbrev tokOf (n : Fin 32768) : Fin 2048 := ⟨n.val % 2048, by omega⟩

/-- The product of the normed row `n` with column `l`. -/
def proj (x : FVec Ideal Cert.Kernel2Ideal.S16x2048x1024 .f32) (s : FVec Ideal Cert.Kernel2Ideal.S1024 .f32)
    (w : FVec Ideal Cert.Kernel2Ideal.S1024x4096 .f32) (n : Fin 32768) (l : Fin 4096) : EReal :=
  ∑ k : Fin 1024, (x (ix3 (seqOf n) (tokOf n) k) * nrm (fun k => x (ix3 (seqOf n) (tokOf n) k)) * s (ix1 k)) * w (ix2 k l)

/-- A stack of 16 matrices of 2048 rows read as one matrix of 32768 rows. -/
theorem flat_apply {α : Type} {C : Nat} (y : (⟨3, ![16, 2048, C]⟩ : Shape).Idx → α)
    (h : (⟨3, ![16, 2048, C]⟩ : Shape).ShapeCasts ⟨2, ![32768, C]⟩) (n : Fin 32768) (l : Fin C) :
    shapeCast ⟨2, ![32768, C]⟩ y h (ix2 n l) = y (ix3 (seqOf n) (tokOf n) l) :=
  shapeCast_apply y h _ _ (by
    rw [Shape.rowMajor_val_three, Shape.rowMajor_val_two]
    show (n.val / 2048 * 2048 + n.val % 2048) * C + l.val = n.val * C + l.val
    rw [Nat.div_add_mod'])

section Kernel

open Cert.Kernel2Ideal Cert.Kernel2Ideal.Gen
open Idealize.ShloMosaic.Pipeline (Dat)

theorem pay1_apply (x : Vec Ideal S512x1024 .f32) (s : Vec Ideal S1x1024 .f32) (r : Fin 512) (k : Fin 1024) :
    k0_pay1 (F := Ideal) x s (ix2 r k) = x (ix2 r k) * nrm (fun k => x (ix2 r k)) * s (ix2 0 k) := by
  pointwise [k0_pay1, nrm]

theorem pay2_apply (x : Vec Ideal S512x1024 .f32) (s : Vec Ideal S1x1024 .f32) (w : Vec Ideal S1024x1792 .bf16) (r : Fin 512) (l : Fin 1792) :
    k0_pay2 (F := Ideal) x s w (ix2 r l) = ∑ k : Fin 1024, k0_pay1 (F := Ideal) x s (ix2 r k) * w (ix2 k l) := by
  pointwise [k0_pay2]

theorem pay3_apply (x : Vec Ideal S512x1024 .f32) (s : Vec Ideal S1x1024 .f32) (w : Vec Ideal S1024x256 .bf16) (r : Fin 512) (l : Fin 256) :
    k0_pay3 (F := Ideal) x s w (ix2 r l) = ∑ k : Fin 1024, k0_pay1 (F := Ideal) x s (ix2 r k) * w (ix2 k l) := by
  pointwise [k0_pay3]

theorem pay4_apply (x : Vec Ideal S512x1024 .f32) (s : Vec Ideal S1x1024 .f32) (w : Vec Ideal S1024x2048 .bf16) (r : Fin 512) (l : Fin 2048) :
    k0_pay4 (F := Ideal) x s w (ix2 r l) = ∑ k : Fin 1024, k0_pay1 (F := Ideal) x s (ix2 r k) * w (ix2 k l) := by
  pointwise [k0_pay4]

theorem hz : (![0, 0] : Fin 2 → Nat) = fun _ => 0 := funext fun a => by fin_cases a <;> rfl

/-- One entry of a tile's product, the blocks' rows named. -/
def tileProj (X : Fin 1024 → EReal) (s : Fin 1024 → EReal) (w : Fin 1024 → EReal) : EReal :=
  ∑ k : Fin 1024, (X k * nrm X * s k) * w k

variable (x0 : Vec Ideal S512x1024 .f32) (x1 : Vec Ideal S1x1024 .f32) (x2 : Vec Ideal S1024x4096 .bf16)
  (r : Fin 512) (X : Fin 1024 → EReal) (s : Fin 1024 → EReal) (w : Fin 1024 → Fin 4096 → EReal)
  (h0 : ∀ k, x0 (ix2 r k) = X k) (h1 : ∀ k, x1 (ix2 0 k) = s k) (h2 : ∀ k l, x2 (ix2 k l) = w k l)

include h0 h1 h2

theorem out3_apply (l : Fin 1792) : out0_3 (F := Ideal) x0 x1 x2 (ix2 r l) = tileProj X s (fun k => w k ⟨l.val, by omega⟩) := by
  unfold out0_3
  rw [View.canon_unit_zero hz, View.ld_unit_zero hz, View.ld_unit_zero hz, pay2_apply]
  simp only [pay1_apply, h0, h1]
  have e : ∀ k : Fin 1024, View.ld x2 r0_2 (ix2 k l) = w k ⟨l.val, by omega⟩ := fun k => by
    rw [← h2]; pointwise []
  simp only [e]
  rfl

theorem out4_apply (l : Fin 256) : out0_4 (F := Ideal) x0 x1 x2 (ix2 r l) = tileProj X s (fun k => w k ⟨1792 + l.val, by omega⟩) := by
  unfold out0_4
  rw [View.canon_unit_zero hz, View.ld_unit_zero hz, View.ld_unit_zero hz, pay3_apply]
  simp only [pay1_apply, h0, h1]
  have e : ∀ k : Fin 1024, View.ld x2 r0_4 (ix2 k l) = w k ⟨1792 + l.val, by omega⟩ := fun k => by
    rw [← h2]; pointwise []
  simp only [e]
  rfl

theorem out5_apply (l : Fin 2048) : out0_5 (F := Ideal) x0 x1 x2 (ix2 r l) = tileProj X s (fun k => w k ⟨2048 + l.val, by omega⟩) := by
  unfold out0_5
  rw [View.canon_unit_zero hz, View.ld_unit_zero hz, View.ld_unit_zero hz, pay4_apply]
  simp only [pay1_apply, h0, h1]
  have e : ∀ k : Fin 1024, View.ld x2 r0_6 (ix2 k l) = w k ⟨2048 + l.val, by omega⟩ := fun k => by
    rw [← h2]; pointwise []
  simp only [e]
  rfl

end Kernel

section Array

open Cert.Kernel2Ideal Cert.Kernel2Ideal.Gen
open Idealize.ShloMosaic.Pipeline (Dat)

theorem tile_rows : ∀ t : Fin grid0.N, (cc0_transform_0 (grid0.coords t) 0 = t.val ∧ cc0_transform_0 (grid0.coords t) 1 = 0)
    ∧ (cc0_transform_3 (grid0.coords t) 0 = t.val ∧ cc0_transform_3 (grid0.coords t) 1 = 0)
    ∧ (cc0_transform_4 (grid0.coords t) 0 = t.val ∧ cc0_transform_4 (grid0.coords t) 1 = 0)
    ∧ (cc0_transform_5 (grid0.coords t) 0 = t.val ∧ cc0_transform_5 (grid0.coords t) 1 = 0) := by decide +kernel

/-- Row `r` of tile `t`. -/
abbrev tileRow (t : Fin grid0.N) (r : Fin 512) : Fin 32768 := ⟨512 * t.val + r.val, by have h : t.val < 64 := t.isLt; omega⟩

variable (m : (ℓ : Loc nD τ sig) → Buf (Elt Ideal) ℓ) (c : Dev nD)

theorem V_v0 : (V m c main_v0 : FVec Ideal S32768x1024 .f32) = shapeCast S32768x1024 (m ((c : Thread nD τ).loc main_arg0)) shapeCasts_S16x2048x1024_S32768x1024 := rfl
theorem V_v1 : (V m c main_v1 : FVec Ideal S1x1024 .f32) = shapeCast S1x1024 (m ((c : Thread nD τ).loc main_arg1)) shapeCasts_S1024_S1x1024 := rfl
theorem V_v2 : (V m c main_v2 : FVec Ideal S1024x4096 .bf16) = truncf (F := Ideal) .bf16 (m ((c : Thread nD τ).loc main_arg2)) bitsLt_bf16_f32 := rfl

abbrev argX : FVec Ideal S16x2048x1024 .f32 := m ((c : Thread nD τ).loc main_arg0)
abbrev argS : FVec Ideal S1024 .f32 := m ((c : Thread nD τ).loc main_arg1)
abbrev argW : FVec Ideal S1024x4096 .f32 := m ((c : Thread nD τ).loc main_arg2)

theorem iblk0 (t : Fin grid0.N) (r : Fin 512) (k : Fin 1024) :
    (iblk m c 0 t : Vec Ideal S512x1024 .f32) (ix2 r k) = argX m c (ix3 (seqOf (tileRow t r)) (tokOf (tileRow t r)) k) := by
  refine (View.read_apply _ _).trans ?_
  refine Eq.trans (b := (V m c main_v0 : FVec Ideal S32768x1024 .f32) (ix2 (tileRow t r) k)) ?_ ((congrFun (V_v0 m c) _).trans (flat_apply _ _ _ _))
  show V m c main_v0 _ = _
  congr 1
  funext a
  apply Fin.ext
  match a with
  | ⟨0, _⟩ => show cc0_transform_0 (grid0.coords t) 0 * 512 + 1 * r.val = 512 * t.val + r.val; rw [(tile_rows t).1.1]; omega
  | ⟨1, _⟩ => show cc0_transform_0 (grid0.coords t) 1 * 1024 + 1 * k.val = k.val; rw [(tile_rows t).1.2]; omega

theorem iblk1 (t : Fin grid0.N) (k : Fin 1024) : (iblk m c 1 t : Vec Ideal S1x1024 .f32) (ix2 0 k) = argS m c (ix1 k) := by
  refine (View.read_apply _ _).trans ?_
  refine Eq.trans (b := (V m c main_v1 : FVec Ideal S1x1024 .f32) (ix2 0 k)) ?_ ((congrFun (V_v1 m c) _).trans (by pointwise []))
  show V m c main_v1 _ = _
  congr 1
  funext a
  apply Fin.ext
  match a with
  | ⟨0, _⟩ => rfl
  | ⟨1, _⟩ => show 0 * 1024 + 1 * k.val = k.val; omega

theorem iblk2 (t : Fin grid0.N) (k : Fin 1024) (l : Fin 4096) : (iblk m c 2 t : Vec Ideal S1024x4096 .bf16) (ix2 k l) = argW m c (ix2 k l) := by
  refine (View.read_apply _ _).trans ?_
  refine Eq.trans (b := (V m c main_v2 : FVec Ideal S1024x4096 .bf16) (ix2 k l)) ?_ (congrFun (V_v2 m c) _)
  show V m c main_v2 _ = _
  congr 1
  funext a
  apply Fin.ext
  match a with
  | ⟨0, _⟩ => show 0 * 1024 + 1 * k.val = k.val; omega
  | ⟨1, _⟩ => show 0 * 4096 + 1 * l.val = l.val; omega

/-- The three results. -/
def res3 : FVec Ideal S32768x1792 .f32 := fun i => proj (argX m c) (argS m c) (argW m c) (i 0) ⟨(i 1 : Nat), by have := (i 1).isLt; exact Nat.lt_trans this (by decide)⟩
def res4 : FVec Ideal S32768x256 .f32 := fun i => proj (argX m c) (argS m c) (argW m c) (i 0) ⟨1792 + (i 1 : Nat), by have h : (i 1 : Nat) < 256 := (i 1).isLt; omega⟩
def res5 : FVec Ideal S32768x2048 .bf16 := fun i => proj (argX m c) (argS m c) (argW m c) (i 0) ⟨2048 + (i 1 : Nat), by have h : (i 1 : Nat) < 2048 := (i 1).isLt; omega⟩

theorem emb3 (t : Fin cfg0.N) (r : Fin 512) (l : Fin 1792) :
    ((cfg0.win 3).blk t).view.emb (ix2 r l : S512x1792.Idx) = (ix2 (tileRow t r) l : S32768x1792.Idx) := by
  funext a
  apply Fin.ext
  match a with
  | ⟨0, _⟩ => show cc0_transform_3 (grid0.coords t) 0 * 512 + 1 * r.val = 512 * t.val + r.val; rw [(tile_rows t).2.1.1]; omega
  | ⟨1, _⟩ => show cc0_transform_3 (grid0.coords t) 1 * 1792 + 1 * l.val = l.val; rw [(tile_rows t).2.1.2]; omega

theorem emb4 (t : Fin cfg0.N) (r : Fin 512) (l : Fin 256) :
    ((cfg0.win 4).blk t).view.emb (ix2 r l : S512x256.Idx) = (ix2 (tileRow t r) l : S32768x256.Idx) := by
  funext a
  apply Fin.ext
  match a with
  | ⟨0, _⟩ => show cc0_transform_4 (grid0.coords t) 0 * 512 + 1 * r.val = 512 * t.val + r.val; rw [(tile_rows t).2.2.1.1]; omega
  | ⟨1, _⟩ => show cc0_transform_4 (grid0.coords t) 1 * 256 + 1 * l.val = l.val; rw [(tile_rows t).2.2.1.2]; omega

theorem emb5 (t : Fin cfg0.N) (r : Fin 512) (l : Fin 2048) :
    ((cfg0.win 5).blk t).view.emb (ix2 r l : S512x2048.Idx) = (ix2 (tileRow t r) l : S32768x2048.Idx) := by
  funext a
  apply Fin.ext
  match a with
  | ⟨0, _⟩ => show cc0_transform_5 (grid0.coords t) 0 * 512 + 1 * r.val = 512 * t.val + r.val; rw [(tile_rows t).2.2.2.1]; omega
  | ⟨1, _⟩ => show cc0_transform_5 (grid0.coords t) 1 * 2048 + 1 * l.val = l.val; rw [(tile_rows t).2.2.2.2]; omega

/-- The tile that holds row `n`, and the row in it. -/
abbrev tileOf (n : Fin 32768) : Fin cfg0.N := ⟨n.val / 512, by have : cfg0.N = 64 := N_0; omega⟩
abbrev rowIn (n : Fin 32768) : Fin 512 := ⟨n.val % 512, by omega⟩
theorem tileRow_tileOf (n : Fin 32768) : tileRow (tileOf n) (rowIn n) = n := Fin.ext (Nat.div_add_mod _ _)

theorem split_row {C : Nat} (i : (⟨2, ![32768, C]⟩ : Shape).Idx) : (ix2 (tileRow (tileOf (i 0)) (rowIn (i 0))) (i 1) : (⟨2, ![32768, C]⟩ : Shape).Idx) = i := by
  refine Eq.trans (congrArg (fun n => (ix2 n (i 1) : (⟨2, ![32768, C]⟩ : Shape).Idx)) (tileRow_tileOf (i 0))) ?_
  exact (eq_ix2 i).symm

theorem final3 : (dats m 0 c).arrAt 3 cfg0.N = res3 m c := by
  refine (dats m 0 c).arrAt_eq_of_cover 3 (res3 m c) (fun t _ => ?_) fun i => ⟨tileOf (i (0 : Fin 2)), flush0_3 _, ?_⟩
  · rw [Value.flushed3]
    show (out0_3 (F := Ideal) (iblk m c 0 t) (iblk m c 1 t) (iblk m c 2 t) : Vec Ideal S512x1792 .f32) = _
    funext y
    obtain ⟨r, l, rfl⟩ : ∃ (r : Fin 512) (l : Fin 1792), y = (ix2 r l : S512x1792.Idx) := ⟨y 0, y 1, eq_ix2 y⟩
    refine (out3_apply _ _ _ r _ _ _ (iblk0 m c t r) (iblk1 m c t) (iblk2 m c t) l).trans ?_
    exact (congrArg (res3 m c) (emb3 t r l)).symm
  · have h := ((cfg0.win 3).blk (tileOf (i (0 : Fin 2)))).view.emb_mem_set (ix2 (rowIn (i (0 : Fin 2))) (i (1 : Fin 2)) : S512x1792.Idx)
    have e : ((cfg0.win 3).blk (tileOf (i (0 : Fin 2)))).view.emb (ix2 (rowIn (i (0 : Fin 2))) (i (1 : Fin 2)) : S512x1792.Idx) = i :=
      (emb3 _ _ _).trans (split_row i)
    rwa [e] at h

theorem final4 : (dats m 0 c).arrAt 4 cfg0.N = res4 m c := by
  refine (dats m 0 c).arrAt_eq_of_cover 4 (res4 m c) (fun t _ => ?_) fun i => ⟨tileOf (i (0 : Fin 2)), flush0_4 _, ?_⟩
  · rw [Value.flushed4]
    show (out0_4 (F := Ideal) (iblk m c 0 t) (iblk m c 1 t) (iblk m c 2 t) : Vec Ideal S512x256 .f32) = _
    funext y
    obtain ⟨r, l, rfl⟩ : ∃ (r : Fin 512) (l : Fin 256), y = (ix2 r l : S512x256.Idx) := ⟨y 0, y 1, eq_ix2 y⟩
    refine (out4_apply _ _ _ r _ _ _ (iblk0 m c t r) (iblk1 m c t) (iblk2 m c t) l).trans ?_
    exact (congrArg (res4 m c) (emb4 t r l)).symm
  · have h := ((cfg0.win 4).blk (tileOf (i (0 : Fin 2)))).view.emb_mem_set (ix2 (rowIn (i (0 : Fin 2))) (i (1 : Fin 2)) : S512x256.Idx)
    have e : ((cfg0.win 4).blk (tileOf (i (0 : Fin 2)))).view.emb (ix2 (rowIn (i (0 : Fin 2))) (i (1 : Fin 2)) : S512x256.Idx) = i :=
      (emb4 _ _ _).trans (split_row i)
    rwa [e] at h

theorem final5 : (dats m 0 c).arrAt 5 cfg0.N = res5 m c := by
  refine (dats m 0 c).arrAt_eq_of_cover 5 (res5 m c) (fun t _ => ?_) fun i => ⟨tileOf (i (0 : Fin 2)), flush0_5 _, ?_⟩
  · rw [Value.flushed5]
    show (out0_5 (F := Ideal) (iblk m c 0 t) (iblk m c 1 t) (iblk m c 2 t) : Vec Ideal S512x2048 .bf16) = _
    funext y
    obtain ⟨r, l, rfl⟩ : ∃ (r : Fin 512) (l : Fin 2048), y = (ix2 r l : S512x2048.Idx) := ⟨y 0, y 1, eq_ix2 y⟩
    refine (out5_apply _ _ _ r _ _ _ (iblk0 m c t r) (iblk1 m c t) (iblk2 m c t) l).trans ?_
    exact (congrArg (res5 m c) (emb5 t r l)).symm
  · have h := ((cfg0.win 5).blk (tileOf (i (0 : Fin 2)))).view.emb_mem_set (ix2 (rowIn (i (0 : Fin 2))) (i (1 : Fin 2)) : S512x2048.Idx)
    have e : ((cfg0.win 5).blk (tileOf (i (0 : Fin 2)))).view.emb (ix2 (rowIn (i (0 : Fin 2))) (i (1 : Fin 2)) : S512x2048.Idx) = i :=
      (emb5 _ _ _).trans (split_row i)
    rwa [e] at h

end Array

section Reference

open Cert.Reference2Ideal Cert.Reference2Ideal.Gen

/-- The reference's product before it is cut into the three results. -/
def cols (x : FVec Ideal S16x2048x1024 .f32) (s : FVec Ideal S1024 .f32) (w : FVec Ideal S1024x4096 .f32) : FVec Ideal S16x2048x4096 .f32 :=
  Host.dotGeneral dot_S16x2048x1024_S1024x4096_S16x2048x4096_2_0_01_1_n_n none
    (mulf (mulf x (broadcastInDim S16x2048x1024 ![0, 1, 2] bcast_S16x2048x1_S16x2048x1024_0_1_2
      (Host.rsqrt (addf (Host.divf (broadcastInDim S16x2048x1 ![0, 1] bcast_S16x2048_S16x2048x1_0_1
        (Host.reduceAdd (mulf x x) (constant (F := Ideal) S_ .f32 0x00000000#32) reducesTo_S16x2048x1024_S16x2048_d2 h_S_))
          (broadcastInDim S16x2048x1 ![] bcast_S_S16x2048x1 (constant (F := Ideal) S_ .f32 0x44800000#32)))
        (broadcastInDim S16x2048x1 ![] bcast_S_S16x2048x1 (constant (F := Ideal) S_ .f32 0x358637BD#32))))))
      (broadcastInDim S16x2048x1024 ![0, 1, 2] bcast_S1x1x1024_S16x2048x1024_0_1_2 (broadcastInDim S1x1x1024 ![2] bcast_S1024_S1x1x1024_2 s))) w

theorem cols_apply (x : FVec Ideal S16x2048x1024 .f32) (s : FVec Ideal S1024 .f32) (w : FVec Ideal S1024x4096 .f32) (n : Fin 32768) (l : Fin 4096) :
    cols x s w (ix3 (seqOf n) (tokOf n) l) = proj x s w n l := by
  pointwise [cols, proj, nrm]

theorem cut3 (y : FVec Ideal S32768x4096 .f32) (n : Fin 32768) (l : Fin 1792) :
    (extractStridedSlice S32768x1792 ![0, 0] y slices_S32768x4096_S32768x1792_0_0 : FVec Ideal S32768x1792 .f32) (ix2 n l) = y (ix2 n ⟨l.val, by omega⟩) := by
  pointwise []
theorem cut4 (y : FVec Ideal S32768x4096 .f32) (n : Fin 32768) (l : Fin 256) :
    (extractStridedSlice S32768x256 ![0, 1792] y slices_S32768x4096_S32768x256_0_1792 : FVec Ideal S32768x256 .f32) (ix2 n l) = y (ix2 n ⟨1792 + l.val, by omega⟩) := by
  pointwise []
theorem cut5 (y : FVec Ideal S32768x4096 .f32) (n : Fin 32768) (l : Fin 2048) :
    (truncf (F := Ideal) .bf16 (extractStridedSlice S32768x2048 ![0, 2048] y slices_S32768x4096_S32768x2048_0_2048) bitsLt_bf16_f32 : FVec Ideal S32768x2048 .bf16) (ix2 n l)
      = y (ix2 n ⟨2048 + l.val, by omega⟩) := by
  pointwise []

theorem flat_cols (x : FVec Ideal S16x2048x1024 .f32) (s : FVec Ideal S1024 .f32) (w : FVec Ideal S1024x4096 .f32) (n : Fin 32768) (l : Fin 4096) :
    (shapeCast S32768x4096 (cols x s w) shapeCasts_S16x2048x4096_S32768x4096 : FVec Ideal S32768x4096 .f32) (ix2 n l) = proj x s w n l :=
  (flat_apply _ _ _ _).trans (cols_apply x s w n l)

end Reference

/-! ## The claims -/

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_ref : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The three results of the kernel are the reference's. -/
theorem algebraic : Cert.algebraic_Kernel2Ideal_Reference2Ideal := by
  intro m g m' g' _ hargs
  refine ⟨fun c => res3 m c, fun c => res4 m c, fun c => res5 m c,
    (θ_run Cert.Kernel2Ideal.defs _ _).mono (fun _ h c => ?_) (Cert.Kernel2Ideal.Value.run_blocks (F := Ideal) m g),
    (θ_run Cert.Reference2Ideal.defs _ _).mono (fun r h c => ?_) (Cert.Reference2Ideal.Value.run (F := Ideal) m' g')⟩
  · obtain ⟨e3, e4, e5, k⟩ := h c
    exact ⟨e3.trans (final3 m c), e4.trans (final4 m c), e5.trans (final5 m c), k⟩
  · obtain ⟨e3, e4, e5, k⟩ := h c
    obtain ⟨a0, a1, a2⟩ := hargs c
    rw [a0, a1, a2] at e3 e4 e5
    refine ⟨e3.trans ?_, e4.trans ?_, e5.trans ?_, k⟩
    · funext i
      obtain ⟨n, l, rfl⟩ : ∃ (n : Fin 32768) (l : Fin 1792), i = (ix2 n l : Cert.Kernel2Ideal.S32768x1792.Idx) := ⟨i 0, i 1, eq_ix2 i⟩
      exact (cut3 _ n l).trans (flat_cols (argX m c) (argS m c) (argW m c) n _)
    · funext i
      obtain ⟨n, l, rfl⟩ : ∃ (n : Fin 32768) (l : Fin 256), i = (ix2 n l : Cert.Kernel2Ideal.S32768x256.Idx) := ⟨i 0, i 1, eq_ix2 i⟩
      exact (cut4 _ n l).trans (flat_cols (argX m c) (argS m c) (argW m c) n _)
    · funext i
      obtain ⟨n, l, rfl⟩ : ∃ (n : Fin 32768) (l : Fin 2048), i = (ix2 n l : Cert.Kernel2Ideal.S32768x2048.Idx) := ⟨i 0, i 1, eq_ix2 i⟩
      exact (cut5 _ n l).trans (flat_cols (argX m c) (argS m c) (argW m c) n _)

end Cert.Proof.InProj

end
-- ==== Proof.Experts.Body.lean ====
/-
  The experts' call, one grid point: the body's run from the windows' buffers. The word of the second table decides between
  the two stores: below it the tile's gated products, from it on zeros. Exactly one of the two conditions holds, for every
  word, so the output's buffer is written at every point.
-/
module

public import proofs.«01_k».proof.Proof.Gen.Kernel3Ideal.Skeleton
public import proofs.«01_k».proof.Proof.Gen.Kernel3Ideal.Launch
public import Idealize.ShloMosaic.Lib.Pipeline.FrameBody
public import Idealize.ShloMosaic.Lib.Tactic
public import Idealize.ShloMosaic.Lib.ValueIdx
public import Idealize.ShloMosaic.Lib.Pipeline.Kit

@[expose] public section

set_option maxRecDepth 16384

noncomputable section

namespace Cert.Proof.Experts

open Cert.Kernel3Ideal Cert.Kernel3Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The resource algebra: the rounds library's for the pipeline's staging cells. -/
abbrev UU (nD : Nat) (τ : Topo) : Type := UR sig nD τ

local notation "𝕄" => MT nD τ sig Unit (Elt F) ℕ (UU nD τ) ℕ

/-! ## The conditions -/

/-- Point `i` comes before tile `v`, as signed words. -/
abbrev before (i : grid0.Coords) (v : BitVec 32) : Bool := (BitVec.ofNat 32 (i 0).val).slt v

/-- The first store's condition: the point comes before the word. -/
theorem cond1_iff (i : grid0.Coords) (v : BitVec 32) : k0_cond1 i v = 1#1 ↔ before i v = true := by
  unfold k0_cond1
  show Scalar.cmpi .ne (Scalar.extui (BitVec.ofBool (before i v)) : BitVec 32) 0#32 = 1#1 ↔ _
  cases before i v <;> decide

/-- The second's: it does not. -/
theorem cond2_iff (i : grid0.Coords) (v : BitVec 32) : k0_cond2 i v = 1#1 ↔ before i v = false := by
  unfold k0_cond2
  show Scalar.cmpi .ne (Scalar.extui (BitVec.ofBool (v.sle (BitVec.ofNat 32 (i 0).val))) : BitVec 32) 0#32 = 1#1 ↔ _
  rw [show v.sle (BitVec.ofNat 32 (i 0).val) = !before i v from by
    unfold before; rw [BitVec.sle_eq_decide, BitVec.slt_eq_decide]; simp only [← decide_not, not_lt]]
  cases before i v <;> decide

/-! ## What the body leaves in the output's buffer -/

/-- The tile's gated products from the windows' blocks, stored whole. -/
def prodv (x0 : Vec F S512x1024 .f32) (x1 x2 : Vec F S1x1024x256 .f32) (x3 : Vec F S1x256x1024 .f32) : Vec F S512x1024 .f32 :=
  View.canon (Val := Elt F) (e := .f32) [⟨Rect.unit (s := S512x1024) ![0, 0] S512x1024.size inb_S512x1024_S512x1024_0_0,
    k0_pay1 (View.ld x0 (Rect.unit (s := S512x1024) ![0, 0] S512x1024.size inb_S512x1024_S512x1024_0_0))
      (View.ld x1 (Rect.unit (s := S1x1024x256) ![0, 0, 0] S1x1024x256.size inb_S1x1024x256_S1x1024x256_0_0_0))
      (View.ld x2 (Rect.unit (s := S1x1024x256) ![0, 0, 0] S1x1024x256.size inb_S1x1024x256_S1x1024x256_0_0_0))
      (View.ld x3 (Rect.unit (s := S1x256x1024) ![0, 0, 0] S1x256x1024.size inb_S1x256x1024_S1x256x1024_0_0_0))⟩]

/-- Zeros, stored whole. -/
def zerov : Vec F S512x1024 .f32 :=
  View.canon (Val := Elt F) (e := .f32) [⟨Rect.unit (s := S512x1024) ![0, 0] S512x1024.size inb_S512x1024_S512x1024_0_0, k0_pay2 (F := F)⟩]

/-- The output tile at point `i`, the second table's word being `v`. -/
def outv (i : grid0.Coords) (v : BitVec 32) (x0 : Vec F S512x1024 .f32) (x1 x2 : Vec F S1x1024x256 .f32) (x3 : Vec F S1x256x1024 .f32) : Vec F S512x1024 .f32 :=
  if before i v then prodv x0 x1 x2 x3 else zerov

theorem cover_out (p0 : Vec F S512x1024 .f32) (y : S512x1024.Idx) :
    ∃ pc ∈ ([⟨Rect.unit (s := S512x1024) ![0, 0] S512x1024.size inb_S512x1024_S512x1024_0_0, p0⟩] : List (View.Piece (Elt F) S512x1024 .f32)), y ∈ pc.1.set :=
  View.cover_of_tiled [⟨Rect.unit (s := S512x1024) ![0, 0] S512x1024.size inb_S512x1024_S512x1024_0_0, p0⟩] S512x1024.size (by rfl) y

/-! ## The body -/

abbrev t1m : Memref sig .tc .smem S160 .i32 := Memref.whole main_arg0
abbrev t2m : Memref sig .tc .smem S1 .i32 := Memref.whole main_arg1

variable (c : Dev nD) (w1 : S160.Idx → BitVec 32) (w2 : S1.Idx → BitVec 32)

/-- The second table's one word. -/
abbrev word : BitVec 32 := w2 (ix1 (0 : Fin 1))

/-- The two tables, held. -/
abbrev tables : sProp 𝕄 :=
  iprop((t1m.view.loc (c : Thread nD τ) ↦{fullShare} (w1 : Buf (Elt F) (t1m.view.loc (c : Thread nD τ))))
    ∗ (t2m.view.loc (c : Thread nD τ) ↦{fullShare} (w2 : Buf (Elt F) (t2m.view.loc (c : Thread nD τ)))))

/-- The second table's one-word load at the head of a program, by its one value. -/
theorem wp_word {hl : t2m.view.LoadsAt (Rect.unit (s := S1) ![0] S1.size inb_S1_S1_0).toLoadRect}
    {k : ((Rect.unit (s := S1) ![0] S1.size inb_S1_S1_0).shape.Idx → BitVec 32) → Prog (TpuEff nD τ sig (Elt F) Λ₀ .tc) PUnit} {K : PUnit → sProp 𝕄} :
    (t2m.view.loc (c : Thread nD τ) ↦{fullShare} (w2 : Buf (Elt F) (t2m.view.loc (c : Thread nD τ))))
      ⊢ iprop(((t2m.view.loc (c : Thread nD τ) ↦{fullShare} (w2 : Buf (Elt F) (t2m.view.loc (c : Thread nD τ))))
          -∗ wp frame (wpE (defs₀ (F := F)) Variants.none (c : Thread nD τ) none) Set.univ (k fun _ => word w2) K)
        -∗ wp frame (wpE (defs₀ (F := F)) Variants.none (c : Thread nD τ) none) Set.univ
          (.op (.load t2m (Rect.unit (s := S1) ![0] S1.size inb_S1_S1_0).toLoadRect hl) k) K) := by
  have e : (t2m.access (Rect.unit (s := S1) ![0] S1.size inb_S1_S1_0)).read (Elt F) (w2 : Buf (Elt F) (t2m.view.loc (c : Thread nD τ))) = fun _ => word w2 := by
    funext y
    show w2 _ = _
    refine congrArg w2 (funext fun a => Fin.ext ?_)
    have := (y a).isLt
    fin_cases a
    show 0 + 1 * (y 0).val = 0
    have h : (y 0).val < 1 := (y 0).isLt
    omega
  have h := wp_load_rect (defs := defs₀ (F := F)) (Γ := .empty) Variants.none (c : Thread nD τ) none Set.univ (Q := K) (m := t2m)
    (r := Rect.unit (s := S1) ![0] S1.size inb_S1_S1_0) (hl := hl) (k := k) (q := fullShare)
    (f := (w2 : Buf (Elt F) (t2m.view.loc (c : Thread nD τ)))) (S := Finset.univ) (Finset.subset_univ _)
  rw [e] at h
  exact h

variable (t : Fin grid0.N) (arg3 : Memref sig .tc .vmem S512x1024 .f32) (harg3 : arg3.IsWhole) (arg4 : Memref sig .tc .vmem S1x1024x256 .f32) (harg4 : arg4.IsWhole)
  (arg5 : Memref sig .tc .vmem S1x1024x256 .f32) (harg5 : arg5.IsWhole) (arg6 : Memref sig .tc .vmem S1x256x1024 .f32) (harg6 : arg6.IsWhole)
  (arg7 : Memref sig .tc .vmem S512x1024 .f32) (harg7 : arg7.IsWhole) (hm0 : t1m.IsWhole) (hm1 : t2m.IsWhole)
  (x0 : Vec F S512x1024 .f32) (x1 x2 : Vec F S1x1024x256 .f32) (x3 : Vec F S1x256x1024 .f32)

/-- The input windows' buffers at the blocks. -/
abbrev ins : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3)

/-- The body at the point. -/
abbrev bodyP : Prog (TpuEff nD τ sig (Elt F) Λ₀ .tc) PUnit :=
  cc0_experts (grid0.coords t) t1m hm0 t2m hm1 arg3 harg3 arg4 harg4 arg5 harg5 arg6 harg6 arg7 harg7

set_option maxHeartbeats 1600000 in
/-- The body's run. -/
theorem run_body (W : Waits sig Unit) (K : PUnit → sProp 𝕄) :
    iprop(tables c w1 w2 ∗ owes (c : Thread nD τ) 0 W ∗ ins c arg3 arg4 arg5 arg6 x0 x1 x2 x3
        ∗ (∃ d, owns (c : Thread nD τ) arg7 fullShare d)
        ∗ (iprop(tables c w1 w2 ∗ (∃ W, owes (c : Thread nD τ) 0 W) ∗ ins c arg3 arg4 arg5 arg6 x0 x1 x2 x3
            ∗ owns (c : Thread nD τ) arg7 fullShare (outv (grid0.coords t) (word w2) x0 x1 x2 x3)) -∗ K ⟨⟩))
      ⊢ wp frame (wpE (defs₀ (F := F)) Variants.none (c : Thread nD τ) none) Set.univ
          (bodyP t arg3 harg3 arg4 harg4 arg5 harg5 arg6 harg6 arg7 harg7 hm0 hm1) K := by
  unfold bodyP
  simp only [cc0_experts_eq_skeleton]; unfold cc0_experts_skel
  unfold ins owns
  by_cases hb : before (grid0.coords t) (word w2) = true
  on_goal 1 =>
    rw [show outv (grid0.coords t) (word w2) x0 x1 x2 x3 = prodv x0 x1 x2 x3 from if_pos hb]
    have h1 := (cond1_iff _ _).mpr hb
    have h2 : ¬ k0_cond2 (grid0.coords t) (word w2) = 1#1 := fun h => by rw [cond2_iff, hb] at h; exact Bool.noConfusion h
  on_goal 2 =>
    rw [show outv (grid0.coords t) (word w2) x0 x1 x2 x3 = zerov from if_neg hb]
    have h1 : ¬ k0_cond1 (grid0.coords t) (word w2) = 1#1 := fun h => hb ((cond1_iff _ _).mp h)
    have h2 := (cond2_iff _ _).mpr (Bool.not_eq_true _ ▸ hb)
  all_goals
    simp only [smemLoad, bind_assoc, Prog.bind_lift, smemLoadElt_bind, Prog.bind_op, Prog.bind_ret]
    iintro ⟨⟨Ht1, Ht2⟩, HO, ⟨⟨%f0, %hf0, H0⟩, ⟨%f1, %hf1, H1⟩, ⟨%f2, %hf2, H2⟩, ⟨%f3, %hf3, H3⟩⟩, ⟨%d7, %f7, -, H7⟩, Hk⟩
    subst hf0 hf1 hf2 hf3
    iapply (wp_word c w2) $$ Ht2
    iintro Ht2
  on_goal 1 => simp only [dif_pos h1, bind_assoc, pure_bind]
  on_goal 2 => simp only [dif_neg h1, bind_assoc, pure_bind]
  on_goal 1 => sl_exec
  all_goals
    iapply (wp_word c w2) $$ Ht2
    iintro Ht2
  on_goal 1 => simp only [dif_neg h2, bind_assoc, pure_bind]
  on_goal 2 =>
    simp only [dif_pos h2, bind_assoc, pure_bind]
    sl_exec
  all_goals
    sl_step
    iapply Hk
    isplitl [Ht1 Ht2]
    · isplitl [Ht1]; · iexact Ht1
      iexact Ht2
    isplitl [HO]; · iexists _; iexact HO
    isplitr [H7]
    · isplitl [H0]
      · iexists f0; isplitr; · ipureintro; rfl
        iexact H0
      isplitl [H1]
      · iexists f1; isplitr; · ipureintro; rfl
        iexact H1
      isplitl [H2]
      · iexists f2; isplitr; · ipureintro; rfl
        iexact H2
      iexists f3; isplitr; · ipureintro; rfl
      iexact H3
    iexists _; isplitr
    swap; · iexact H7
    ipureintro
    exact View.read_writes_eq_canon _ _ _ (cover_out _)

end Cert.Proof.Experts
-- ==== Proof.Experts.Run.lean ====
/-
  The experts' call's run: the tables that the region is entered with, the pipeline's proof data, the body obligation from
  the body's run, and the launch. The theorem `run_main` says, over any float values: from any memory whose first table
  names experts, every execution ends, with every window's array at what the pipeline leaves, every argument as it was and
  every counter at zero.
-/
module

public import proofs.«01_k».proof.Proof.Experts.Body
public import Idealize.ShloMosaic.Lib.Pipeline.Regions

@[expose] public section

set_option maxRecDepth 16384

noncomputable section

namespace Cert.Proof.Experts

open Cert.Kernel3Ideal Cert.Kernel3Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

/-- The pipeline library's algebra. -/
abbrev EP : Emb (UR sig nD τ) (MT nD τ sig Unit (Elt F) ℕ (UU nD τ) ℕ) := emb₁

/-! ## Which block of the weights a point takes -/

/-- Where the first table is read at point `i`. -/
theorem off1_val : ∀ i : grid0.Coords, k0_off1 i 0 = (i 0).val := by decide +kernel

/-- The expert that the first table names at point `i`. -/
abbrev expertAt (pf : pre0.Contents (Elt F)) (i : grid0.Coords) : BitVec 32 :=
  (show S160.Idx → BitVec 32 from pf 0) (ix1 (show Fin 160 from i 0))

/-- Every weight window takes the block of the expert that the first table names at the point. -/
theorem transform_1_eq (pf : pre0.Contents (Elt F)) (i : grid0.Coords) :
    cc0_transform_1 k0_off1_inb numel1_S1 pf i = ![(expertAt pf i).toNat, 0, 0] := by
  have e : pf.at 0 (Rect.unit (s := S160) (k0_off1 i) S1.size (k0_off1_inb i)) numel1_S1
      = (show S160.Idx → BitVec 32 from pf 0) (ix1 (show Fin 160 from i 0)) := by
    refine congrArg (show S160.Idx → BitVec 32 from pf 0) (funext fun a => Fin.ext ?_)
    fin_cases a
    show k0_off1 i 0 + 1 * 0 = (i 0).val
    rw [off1_val]; rfl
  show ![(pf.at 0 (Rect.unit (s := S160) (k0_off1 i) S1.size (k0_off1_inb i)) numel1_S1).toNat, 0, 0] = _
  rw [e]
theorem transform_2_eq (pf : pre0.Contents (Elt F)) (i : grid0.Coords) :
    cc0_transform_2 k0_off1_inb numel1_S1 pf i = ![(expertAt pf i).toNat, 0, 0] :=
  transform_1_eq pf i
theorem transform_3_eq (pf : pre0.Contents (Elt F)) (i : grid0.Coords) :
    cc0_transform_3 k0_off1_inb numel1_S1 pf i = ![(expertAt pf i).toNat, 0, 0] :=
  transform_1_eq pf i

/-- Tables that name experts are admissible: the blocks lie in the weights. -/
theorem ok_of_lt (pf : pre0.Contents (Elt F)) (h : ∀ n, ((show S160.Idx → BitVec 32 from pf 0) n).toNat < 32) : ok0 pf := by
  refine ⟨fun i => ⟨fun a => ?_, .inl rfl⟩, fun i => ⟨fun a => ?_, .inl rfl⟩, fun i => ⟨fun a => ?_, .inl rfl⟩⟩
  all_goals
    have hi : (expertAt pf i).toNat < 32 := h (ix1 (show Fin 160 from i 0))
  · rw [transform_1_eq]
    match a with
    | ⟨0, _⟩ => show ((expertAt pf i).toNat + 1) * 1 ≤ 32; omega
    | ⟨1, _⟩ => show (0 + 1) * 1024 ≤ 1024; omega
    | ⟨2, _⟩ => show (0 + 1) * 256 ≤ 256; omega
  · rw [transform_2_eq]
    match a with
    | ⟨0, _⟩ => show ((expertAt pf i).toNat + 1) * 1 ≤ 32; omega
    | ⟨1, _⟩ => show (0 + 1) * 1024 ≤ 1024; omega
    | ⟨2, _⟩ => show (0 + 1) * 256 ≤ 256; omega
  · rw [transform_3_eq]
    match a with
    | ⟨0, _⟩ => show ((expertAt pf i).toNat + 1) * 1 ≤ 32; omega
    | ⟨1, _⟩ => show (0 + 1) * 256 ≤ 256; omega
    | ⟨2, _⟩ => show (0 + 1) * 1024 ≤ 1024; omega

variable (m : (ℓ : Loc nD τ sig) → Buf (Elt F) ℓ) (ρ : Dev nD → PrngReg)

/-! ## The pipeline's proof data -/

/-- The first table at launch, -/
abbrev w1 : S160.Idx → BitVec 32 := m (((0 : Dev nD) : Thread nD τ).loc main_arg0)
/-- and the second. -/
abbrev w2 : S1.Idx → BitVec 32 := m (((0 : Dev nD) : Thread nD τ).loc main_arg1)

variable (hw : ∀ n, (w1 m n).toNat < 32)

/-- The two tables' contents. -/
def pfM : pre0.Contents (Elt F) := fun | 0 => w1 m | 1 => w2 m

/-- The tables' contents that the region is entered with. -/
def adm : (p : Fin 1) → (pcfgs (F := F) p).Adm := fun _ => ⟨pfM m, ok_of_lt (pfM m) hw⟩

/-- The pipeline at those tables. -/
abbrev cfgM : Cfg sig Λ₀ := cfg0 (adm m hw 0)

/-- Core `c`'s buffers at launch, which are those the region finds. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin (cfgM m hw).W) (t : Fin (cfgM m hw).N) :
    (((cfgM m hw).win w).xblock ((cfgM m hw).grid.coords t)).Idx → Elt F ((cfgM m hw).win w).elt :=
  (((cfgM m hw).win w).blk t).view.read (Elt F) (V m c (Pipeline.arrRef spec0 w))

/-- What the output's buffer holds after point `t`. -/
def outAt (c : Dev nD) (t : Fin (cfgM m hw).N) : Vec F S512x1024 .f32 :=
  outv (grid0.coords t) (word (w2 m)) (iblk m hw c 0 t) (iblk m hw c 1 t) (iblk m hw c 2 t) (iblk m hw c 3 t)

/-- The proof data on core `c`. -/
def dats (_ : Fin 1) (c : Dev nD) : Dat τ (Elt F) Unit ℕ (UU nD τ) ℕ (cfgM m hw) c where
  A w := V m c (Pipeline.arrRef spec0 w)
  after w t := match w with
    | ⟨0, _⟩ => iblk m hw c 0 t
    | ⟨1, _⟩ => iblk m hw c 1 t
    | ⟨2, _⟩ => iblk m hw c 2 t
    | ⟨3, _⟩ => iblk m hw c 3 t
    | ⟨4, _⟩ => outAt m hw c t
  Φ _ := tables c (w1 m) (w2 m)
  q _ := fullShare
  owed _ := 0

theorem A_eq (c : Dev nD) (w : Fin (cfgM m hw).W) : (dats m hw 0 c).A w = V m c (Pipeline.arrRef spec0 w) := by
  dsimp only [dats]

theorem after_0 (c : Dev nD) (t : Fin (cfgM m hw).N) : (dats m hw 0 c).after 0 t = iblk m hw c 0 t := by dsimp only [dats]; rfl
theorem after_1 (c : Dev nD) (t : Fin (cfgM m hw).N) : (dats m hw 0 c).after 1 t = iblk m hw c 1 t := by dsimp only [dats]; rfl
theorem after_2 (c : Dev nD) (t : Fin (cfgM m hw).N) : (dats m hw 0 c).after 2 t = iblk m hw c 2 t := by dsimp only [dats]; rfl
theorem after_3 (c : Dev nD) (t : Fin (cfgM m hw).N) : (dats m hw 0 c).after 3 t = iblk m hw c 3 t := by dsimp only [dats]; rfl
theorem after_4 (c : Dev nD) (t : Fin (cfgM m hw).N) : (dats m hw 0 c).after 4 t = outAt m hw c t := by dsimp only [dats]; rfl

theorem before_0 (c : Dev nD) (t : Fin (cfgM m hw).N) (d) : (dats m hw 0 c).before 0 t d = iblk m hw c 0 t :=
  ((dats m hw 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin (cfgM m hw).N) (d) : (dats m hw 0 c).before 1 t d = iblk m hw c 1 t :=
  ((dats m hw 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin (cfgM m hw).N) (d) : (dats m hw 0 c).before 2 t d = iblk m hw c 2 t :=
  ((dats m hw 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin (cfgM m hw).N) (d) : (dats m hw 0 c).before 3 t d = iblk m hw c 3 t :=
  ((dats m hw 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)

/-! ## The body obligation -/

/-- The body as the pipeline calls it at point `t`. -/
abbrev bodyAt (t : Fin (cfgM m hw).N) : Prog (TpuEff nD τ sig (Elt F) Λ₀ .tc) PUnit :=
  bodyP t (spec0_0.stage ((cfgM m hw).slots t 0)) (hstage0_0 (((cfgM m hw).slots t 0).cast nbuf0_0)) (spec0_1.stage ((cfgM m hw).slots t 1)) (hstage0_1 (((cfgM m hw).slots t 1).cast nbuf0_1)) (spec0_2.stage ((cfgM m hw).slots t 2)) (hstage0_2 (((cfgM m hw).slots t 2).cast nbuf0_2)) (spec0_3.stage ((cfgM m hw).slots t 3)) (hstage0_3 (((cfgM m hw).slots t 3).cast nbuf0_3)) (spec0_4.stage ((cfgM m hw).slots t 4)) (hstage0_4 (((cfgM m hw).slots t 4).cast nbuf0_4))
    (Memref.isWhole_whole _) (Memref.isWhole_whole _)

theorem defs₀_row (t : Fin (cfgM m hw).N) :
    defs₀ (F := F) .tc (cfgM m hw).body ((cfgM m hw).bodyArgs t ((cfgM m hw).slots t)) = bodyAt m hw t := by
  unfold defs₀; rw [Defs.onTc_tc]

/-- What the body is called with at point `t`, the windows one by one, -/
def bodyPre (c : Dev nD) (t : Fin (cfgM m hw).N) : sProp 𝕄 :=
  iprop((dats m hw 0 c).Φ t.castSucc ∗ (dats m hw 0 c).owesAt () t.castSucc
    ∗ (∃ d, owns (c : Thread nD τ) (spec0_0.stage ((cfgM m hw).slots t 0)) fullShare ((dats m hw 0 c).before 0 t d)) ∗ (∃ d, owns (c : Thread nD τ) (spec0_1.stage ((cfgM m hw).slots t 1)) fullShare ((dats m hw 0 c).before 1 t d)) ∗ (∃ d, owns (c : Thread nD τ) (spec0_2.stage ((cfgM m hw).slots t 2)) fullShare ((dats m hw 0 c).before 2 t d)) ∗ (∃ d, owns (c : Thread nD τ) (spec0_3.stage ((cfgM m hw).slots t 3)) fullShare ((dats m hw 0 c).before 3 t d)) ∗ (∃ d, owns (c : Thread nD τ) (spec0_4.stage ((cfgM m hw).slots t 4)) fullShare ((dats m hw 0 c).before 4 t d)))

/-- and what it returns. -/
def bodyPost (c : Dev nD) (t : Fin (cfgM m hw).N) : sProp 𝕄 :=
  iprop((dats m hw 0 c).Φ t.succ ∗ (dats m hw 0 c).owesAt () t.succ
    ∗ owns (c : Thread nD τ) (spec0_0.stage ((cfgM m hw).slots t 0)) fullShare ((dats m hw 0 c).after 0 t) ∗ owns (c : Thread nD τ) (spec0_1.stage ((cfgM m hw).slots t 1)) fullShare ((dats m hw 0 c).after 1 t) ∗ owns (c : Thread nD τ) (spec0_2.stage ((cfgM m hw).slots t 2)) fullShare ((dats m hw 0 c).after 2 t) ∗ owns (c : Thread nD τ) (spec0_3.stage ((cfgM m hw).slots t 3)) fullShare ((dats m hw 0 c).after 3 t) ∗ owns (c : Thread nD τ) (spec0_4.stage ((cfgM m hw).slots t 4)) fullShare ((dats m hw 0 c).after 4 t))

theorem sound_body (c : Dev nD) (t : Fin (cfgM m hw).N) :
    bodyPre m hw c t ⊢ wp frame (wpE (defs₀ (F := F)) Variants.none (c : Thread nD τ) none) Set.univ (bodyAt m hw t) (fun _ => bodyPost m hw c t) := by
  unfold bodyPre bodyPost
  simp only [before_0, before_1, before_2, before_3, after_0, after_1, after_2, after_3, after_4]
  rw [show (dats m hw 0 c).Φ t.castSucc = tables c (w1 m) (w2 m) from rfl,
    show (dats m hw 0 c).Φ t.succ = tables c (w1 m) (w2 m) from rfl]
  unfold Dat.owesAt Pipeline.owesWithin
  rw [show (dats m hw 0 c).owed t.castSucc = 0 from rfl, show (dats m hw 0 c).owed t.succ = 0 from rfl]
  iintro ⟨HΦ, ⟨%W, %hW, HO⟩, ⟨%d0, H0⟩, ⟨%d1, H1⟩, ⟨%d2, H2⟩, ⟨%d3, H3⟩, ⟨%d4, H4⟩⟩
  iapply (run_body c (w1 m) (w2 m) t (spec0_0.stage ((cfgM m hw).slots t 0)) (hstage0_0 (((cfgM m hw).slots t 0).cast nbuf0_0)) (spec0_1.stage ((cfgM m hw).slots t 1)) (hstage0_1 (((cfgM m hw).slots t 1).cast nbuf0_1)) (spec0_2.stage ((cfgM m hw).slots t 2)) (hstage0_2 (((cfgM m hw).slots t 2).cast nbuf0_2)) (spec0_3.stage ((cfgM m hw).slots t 3)) (hstage0_3 (((cfgM m hw).slots t 3).cast nbuf0_3)) (spec0_4.stage ((cfgM m hw).slots t 4)) (hstage0_4 (((cfgM m hw).slots t 4).cast nbuf0_4))
    (Memref.isWhole_whole _) (Memref.isWhole_whole _) (iblk m hw c 0 t) (iblk m hw c 1 t) (iblk m hw c 2 t) (iblk m hw c 3 t) W)
  isplitl [HΦ]; · iexact HΦ
  isplitl [HO]; · iexact HO
  isplitl [H0 H1 H2 H3]
  · isplitl [H0]; · iexact H0
    isplitl [H1]; · iexact H1
    isplitl [H2]; · iexact H2
    iexact H3
  isplitl [H4]; · iexists _; iexact H4
  iintro ⟨HΦ, ⟨%W', HO⟩, ⟨H0, H1, H2, H3⟩, H4⟩
  isplitl [HΦ]; · iexact HΦ
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  iexact H4

/-- Of the two conditions one holds, whatever the word. -/
theorem cond_or (i : grid0.Coords) (v : BitVec 32) : (!(k0_cond1 i v == 1#1) && !(k0_cond2 i v == 1#1)) = false := by
  by_cases hb : before i v = true
  · rw [(cond1_iff _ _).mpr hb]; rfl
  · rw [(cond2_iff _ _).mpr (Bool.not_eq_true _ ▸ hb)]; exact Bool.and_false _

/-- Every point stores the output's tile, whatever the second table's word. -/
theorem idle4 (pf : pre0.Contents (Elt F)) (i : grid0.Coords) : idle0 pf 4 i = false := cond_or i _

/-- The library's body obligation. -/
theorem body_obligation (c : Dev nD) : BodyObligation (dats m hw 0 c) (defs₀ (F := F)) Variants.none () Set.univ := fun t => by
  have hi : idle0 (adm m hw 0).1 4 (((pcfg0 (F := F)).gridAt (adm m hw 0).1).coords t) = false := idle4 _ _
  rw [bigSep_W0, bigSep_W0, defs₀_row]
  dsimp only
  rw [hi]
  exact triple_restated (sound_body m hw c t) rfl .rfl fun _ => .rfl

/-! ## The launch -/

/-- The call has no semaphore of its own. -/
abbrev osem : Fin 0 → SemLoc sig := fun k => k.elim0
theorem ownSemFacts : Pipeline.OwnSemFacts spec0 osem := by decide

/-- The launch element: the pipeline library's. -/
def u₀ : UU nD τ := initOf (Pipeline.cells (Pipeline.pin (pcfgs (F := F)) (adm m hw)) (cellOf_inj (adm m hw))) (Pipeline.launchToks (Pipeline.pin (pcfgs (F := F)) (adm m hw)) (cellOf_inj (adm m hw)))

omit [FloatOps F] in
theorem ownSems0_eq (c : Dev nD) :
    (Pipeline.ownSems0 (Ix := Unit) (Name := ℕ) (U := UU nD τ) (Lvl := ℕ) (Val := Elt F) (τ := τ) osem c : sProp 𝕄) = (BI.emp : sProp 𝕄) :=
  Pipeline.ownSems0_eq_of_list c osem [] (by decide) (by decide)

omit [FloatOps F] in
/-- The two tables, from the launch's pair. -/
theorem prefHeld_eq (c : Dev nD) (v : pre0.Contents (Elt F)) :
    (Pipeline.prefHeld pre0 c (fun _ => fullShare) v : sProp 𝕄)
      = iprop((((c : Thread nD τ).loc main_arg0) ↦{fullShare} (show Buf (Elt F) ((c : Thread nD τ).loc main_arg0) from v 0))
          ∗ (((c : Thread nD τ).loc main_arg1) ↦{fullShare} (show Buf (Elt F) ((c : Thread nD τ).loc main_arg1) from v 1))) := by
  unfold Pipeline.prefHeld
  exact bigSep_univ_eq_bigSepL [(0 : Fin 2), (1 : Fin 2)] (by decide) (by decide) _

omit [FloatOps F] in
/-- The unscoped buffers that are no window's array: the two tables. -/
theorem rest_eq (c : Dev nD) (V : (b : Ref sig .tc) → Buf (Elt F) ((c : Thread nD τ).loc b)) :
    (Pipeline.unscopedRest (Ix := Unit) (Name := ℕ) (U := UU nD τ) (Lvl := ℕ) spec0 c V : sProp 𝕄)
      = iprop((((c : Thread nD τ).loc main_arg0) ↦{fullShare} V main_arg0) ∗ (((c : Thread nD τ).loc main_arg1) ↦{fullShare} V main_arg1)) :=
  Pipeline.unscopedRest_eq_of_list spec0 c V [main_arg0, main_arg1] (by decide) (by decide)

abbrev L : GSem nD τ sig → Finset Unit := fun _ => ∅
abbrev lv : GSem nD τ sig → Unit → ℕ := fun _ _ => 0
abbrev R (c : Dev nD) : sProp 𝕄 := iprop(∃ W, owes (c : Thread nD τ) (0 : CellTallies nD τ sig Unit) W)

/-- What the region leaves for the end. -/
abbrev Tₙ (c : Dev nD) : sProp 𝕄 :=
  iprop((dats m hw 0 c).arrays ((dats m hw 0 c).arrAt · (cfgM m hw).N) ∗ tables c (w1 m) (w2 m))

set_option backward.isDefEq.respectTransparency.types false in
/-- The region. -/
def reg0 : Pipeline.RegionSeg (pcfgs (F := F)) (adm m hw) (dats m hw) () defs₀ Variants.none L lv 0 where
  win := (launch0 (F := F)).win.to₀
  block_pos := (launch0 (F := F)).block_pos
  stage_whole := (launch0 (F := F)).stage_whole
  K := Fin 0
  osem := osem
  ho := ownSemFacts
  hbody c := (body_obligation m hw c).loose
  hwaits := Pipeline.hwaits_of_owed_zero _ _ _ _ L lv 0 fun _ _ => rfl
  pre c := iprop(unscopedBufs c (V m c) ∗ R c)
  post c := iprop(Tₙ m hw c ∗ R c)
  X c := iprop(emp)
  Y c := tables c (w1 m) (w2 m)
  Z c := iprop(emp)
  hentry c := by
    obtain rfl : c = 0 := Subsingleton.elim _ _
    have hsplit := (Pipeline.arrays_of_unscopedBufs (pcfgs (F := F)) (adm m hw) (dats m hw) (launch0 (F := F)).win (launch0 (F := F)).arr_whole 0
      ((dats m hw 0 0).share_full fun _ => rfl) (V m 0) (A_eq m hw 0)).trans (sep_mono .rfl (Entails.of_eq (rest_eq 0 (V m 0))))
    have hp := prefHeld_eq (F := F) 0 (adm m hw 0).1
    refine BIBase.Entails.trans ?_ (fupd_mono (sep_mono .rfl (sep_mono (Entails.of_eq hp.symm) .rfl)))
    iintro ⟨⟨Hub, HO⟩, Hos, -⟩
    ihave H := hsplit $$ Hub
    icases H with ⟨Ha, H0, H1⟩
    imodintro
    isplitl [Ha]; · iexact Ha
    isplitl [H0 H1]
    · isplitl [H0]; · iexact H0
      iexact H1
    isplitl [HO]
    · unfold Pipeline.Dat.owesAt Pipeline.owesWithin
      icases HO with ⟨%W, HO⟩; iexists W; isplitr; · ipureintro; exact fun _ _ => Or.inl trivial
      iexact HO
    isplitr <;> iempintro
  hin c := by
    rw [show (dats m hw 0 c).Φ 0 = tables c (w1 m) (w2 m) from rfl]
    have hp := prefHeld_eq (F := F) c (adm m hw 0).1
    iintro ⟨-, Hp, -⟩
    ihave Hp := (Entails.of_eq hp) $$ Hp
    icases Hp with ⟨H0, H1⟩
    isplitl [H0]; · iexact H0
    iexact H1
  hout c := by
    have hs := scopedRest0_eq (Ix := Unit) (Val := Elt F) (Name := ℕ) (U := UU nD τ) (Lvl := ℕ) c
    rw [ownSems0_eq, show (dats m hw 0 c).Φ (Fin.last (Pipeline.pin (pcfgs (F := F)) (adm m hw) 0).N) = tables c (w1 m) (w2 m) from rfl]
    iintro Ht
    isplitl [Ht]; · iexact Ht
    isplitr; · iempintro
    iapply (Entails.of_eq hs.symm)
    iempintro
  hexit c := by
    iintro ⟨Ha, HO, HY, -⟩
    imodintro
    isplitr [HO]
    · isplitl [Ha]; · iexact Ha
      iexact HY
    · unfold Pipeline.Dat.owesAt Pipeline.owesWithin
      icases HO with ⟨%W, -, HO⟩; iexists W; iexact HO

/-- @main as its one segment. -/
abbrev segs : List (Pipeline.Seg (pcfgs (F := F)) (adm m hw) (dats m hw) () defs₀ Variants.none L lv) := [.region (reg0 m hw)]

/-- What a final state holds on core `c`: the windows' arrays as the pipeline leaves them; the tables as launched. -/
def QC (c : Dev nD) (s : MemSt nD τ sig (Elt F)) : Prop :=
  (∀ w : Fin (cfgM m hw).W, s.mem (((cfgM m hw).win w).arr.view.loc (c : Thread nD τ)) = (dats m hw 0 c).arrAt w (cfgM m hw).N)
    ∧ s.mem ((c : Thread nD τ).loc main_arg0) = m ((c : Thread nD τ).loc main_arg0) ∧ s.mem ((c : Thread nD τ).loc main_arg1) = m ((c : Thread nD τ).loc main_arg1)

set_option backward.isDefEq.respectTransparency.types false in
/-- The run. -/
theorem run_main : θ_run defs (onTc (τ := τ) (main (F := F))) (s₀ m ρ) (fun r => (∀ c, QC m hw c r.2) ∧ r.2.sem = fun _ => 0) :=
  Pipeline.θ_run_regions_kit_sems (pcfgs (F := F)) (adm m hw) (dats m hw) () (cellOf_inj (adm m hw)) EP defs₀ Variants.none L lv m ρ main (segs m hw)
    (fun c Q => by rw [main_segs (adm m hw) (dats m hw) () Variants.none L lv (reg0 m hw) c])
    (by simp only [Pipeline.Seg.pipes_region, Pipeline.Seg.pipes_nil]; decide) (O₀ := 0) (hL := fun _ _ => rfl) (G := fun _ => iprop(emp)) (u₀ := u₀ m hw)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ R c)) (Tₙ := Tₙ m hw)
    (hch := ⟨fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := QC m hw)
    (hfin := fun c s' => by
      obtain rfl : c = 0 := Subsingleton.elim _ _
      dsimp only [Tₙ]
      iintro ⟨⟨Ha, ⟨H0, H1⟩⟩, HSI⟩
      icombine HSI H0 gives %h0
      icombine HSI H1 gives %h1
      ihave Hr := (Pipeline.arrays_read (pcfgs (F := F)) (adm m hw) (dats m hw) (launch0 (F := F)).arr_whole 0 ((dats m hw 0 0).share_full fun _ => rfl) _ s') $$ [Ha HSI]
      · isplitl [Ha] <;> iassumption
      icases Hr with ⟨%ha, HSI⟩
      imodintro
      isplitr
      · ipureintro
        exact ⟨ha, Buf.eq_of_forall_mem_univ h0, Buf.eq_of_forall_mem_univ h1⟩
      iexact HSI)
    (hQ := fun _ h hz => ⟨h, funext fun g => hz g (.inr (by revert g; decide))⟩)

end Cert.Proof.Experts
-- ==== Proof.Experts.Frame.lean ====
/-
  The frames of the experts' call and of its reference. The precondition's bit gives the bound on the table of experts; the
  run (`run_main`) then gives the frame of the ideal program, and, read at bit patterns, that of the kernel, whose text is
  the same.
-/
module

public import proofs.«01_k».proof.Defs
public import proofs.«01_k».proof.Proof.Experts.Run
public import proofs.«01_k».proof.Proof.Gen.Kernel3
public import proofs.«01_k».proof.Proof.Gen.Reference3Ideal.Run
public import proofs.«01_k».proof.Proof.Gen.Pre_experts_exist
public import Idealize.ShloMosaic.Lib.ReduceAll

@[expose] public section

set_option maxRecDepth 16384

noncomputable section

namespace Cert.Proof.Experts

open Idealize.ShloMosaic Idealize.SL.Sem
open Idealize.ShloMosaic.TcCoe

variable {F : FTy → Type} [FloatOps F]

/-- A word that is at least 0 and below 32 as a signed number is below 32 as a natural one. -/
theorem toNat_lt_of_bits (w : BitVec 32) (h0 : BitVec.ofBool ((0#32).sle w) = 1#1)
    (h1 : BitVec.ofBool (w.slt 32#32) = 1#1) : w.toNat < 32 := by
  have ho : ∀ p : Bool, (BitVec.ofBool p = 1#1) ↔ p = true := fun p => by cases p <;> decide
  rw [ho] at h0 h1
  rw [BitVec.sle_eq_decide, decide_eq_true_eq] at h0
  rw [BitVec.slt_eq_decide, decide_eq_true_eq] at h1
  have e0 : (0#32 : BitVec 32).toInt = 0 := by decide
  have e1 : (32#32 : BitVec 32).toInt = 32 := by decide
  rw [e0] at h0; rw [e1] at h1
  rw [BitVec.toInt_eq_toNat_cond] at h0 h1
  split at h0 <;> omega

/-- What the precondition says of the table. -/
theorem table_lt (a0 : IVec Cert.Kernel3Ideal.S160 32) (a1 : IVec Cert.Kernel3Ideal.S1 32) (a2 : FVec F Cert.Kernel3Ideal.S81920x1024 .f32)
    (a3 a4 : FVec F Cert.Kernel3Ideal.S32x1024x256 .f32) (a5 : FVec F Cert.Kernel3Ideal.S32x256x1024 .f32)
    (h : Cert.Pre_experts_exist.fn (F := F) a0 a1 a2 a3 a4 a5 = fun _ => 1#1) (n : Cert.Kernel3Ideal.S160.Idx) :
    (a0 n).toNat < 32 := by
  have e := congrFun h (fun i => i.elim0)
  simp only [Cert.Pre_experts_exist.fn] at e
  haveI : Subsingleton (Cert.Pre_experts_exist.S_).Idx := ⟨fun a b => funext fun i => i.elim0⟩
  have e := Host.reduce_andi_all _ _ _ _ _ e n
  simp only [andi, cmpi, broadcastInDim, constantI, IntOp.cmpi] at e
  have ha : ∀ p q : BitVec 1, IntOp.andi p q = 1#1 ↔ p = 1#1 ∧ q = 1#1 := by decide
  rw [ha] at e
  exact toNat_lt_of_bits _ e.1 e.2

section

open Cert.Kernel3Ideal Cert.Kernel3Ideal.Gen

variable (m : (ℓ : Loc nD τ sig) → Buf (Elt F) ℓ) (hw : ∀ n, (w1 m n).toNat < 32)

/-- The arguments after the run, window by window and table by table. -/
theorem args_kept (c : Dev nD) (s : MemSt nD τ sig (Elt F)) (h : QC m hw c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5) := by
  obtain ⟨ha, h0, h1⟩ := h
  refine ⟨h0, h1, ?_, ?_, ?_, ?_⟩
  · exact ((ha 0).trans ((dats m hw 0 c).arrAt_in 0 rfl _)).trans (A_eq m hw c 0)
  · exact ((ha 1).trans ((dats m hw 0 c).arrAt_in 1 rfl _)).trans (A_eq m hw c 1)
  · exact ((ha 2).trans ((dats m hw 0 c).arrAt_in 2 rfl _)).trans (A_eq m hw c 2)
  · exact ((ha 3).trans ((dats m hw 0 c).arrAt_in 3 rfl _)).trans (A_eq m hw c 3)

end

/-- The ideal program's frame. -/
theorem frame_ideal : Cert.quiescent_Kernel3Ideal := fun m ρ hpre =>
  (θ_run Cert.Kernel3Ideal.defs _ _).mono (fun _ h => ⟨fun c => args_kept m _ c _ (h.1 c), h.2⟩)
    (run_main (F := Ideal) m ρ (table_lt _ _ _ _ _ _ (hpre 0)))

/-- The kernel's text is the ideal program's: the body, -/
theorem same_body : @Cert.Kernel3.cc0_experts F _ _ = @Cert.Kernel3Ideal.cc0_experts F _ _ := rfl

/-- the label's meaning, -/
theorem same_defs₀ : @Cert.Kernel3.defs₀ F _ _ = @Cert.Kernel3Ideal.defs₀ F _ _ := by
  funext p ℓ a
  cases p with
  | tc =>
    have hℓ : ℓ = (0 : Fin 1) := Subsingleton.elim (α := Fin 1) _ _
    subst hℓ
    obtain ⟨t, s⟩ := a
    rfl
  | scScalar _ => rfl
  | scVector _ _ => rfl

/-- the pipeline round it, -/
theorem same_defs : @Cert.Kernel3.defs F _ _ = @Cert.Kernel3Ideal.defs F _ _ :=
  congrArg (Pipeline.defs (Cert.Kernel3Ideal.pcfgs (F := F))) same_defs₀

/-- and @main. -/
theorem same_main : @Cert.Kernel3.main F _ _ = @Cert.Kernel3Ideal.main F _ _ := rfl

/-- The kernel's frame: the same run, at bit patterns. -/
theorem frame_kernel : Cert.quiescent_Kernel3 := fun m ρ hpre => by
  rw [same_defs, same_main]
  exact (θ_run Cert.Kernel3Ideal.defs _ _).mono (fun _ h => ⟨fun c => args_kept m _ c _ (h.1 c), h.2⟩)
    (run_main (F := Bits) m ρ (table_lt _ _ _ _ _ _ (hpre 0)))

/-- The reference's frame, with and without the precondition. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_ref_pre : Cert.quiescent_Reference3Ideal_pre_experts_exist := fun m ρ _ => frame_ref m ρ trivial

end Cert.Proof.Experts

end
-- ==== Proof.Experts.Block.lean ====
/-
  The mathematics of one expert on one row over the extended reals, and the tile that the call stores as a function of the
  windows' blocks.
-/
module

public import proofs.«01_k».proof.Proof.Experts.Body
public import proofs.«01_k».proof.Proof.Ple.RowMath
public import Idealize.ShloMosaic.Lib.Pointwise

@[expose] public section

set_option maxRecDepth 16384

noncomputable section

namespace Cert.Proof.Experts

open Idealize.ShloMosaic
open Cert.Proof.Ple (gate half_tanh)

/-- A row's product with one column of weights. -/
def col (X : Fin 1024 → EReal) (w : Fin 1024 → Fin 256 → EReal) (j : Fin 256) : EReal := ∑ k : Fin 1024, X k * w k j

/-- The expert's hidden row: the silu of the gate's product, times the up product. -/
def hidden (X : Fin 1024 → EReal) (wg wu : Fin 1024 → Fin 256 → EReal) (j : Fin 256) : EReal :=
  col X wg j * gate (col X wg j) * col X wu j

/-- The expert's output row. -/
def expertRow (X : Fin 1024 → EReal) (wg wu : Fin 1024 → Fin 256 → EReal) (wd : Fin 256 → Fin 1024 → EReal) (l : Fin 1024) : EReal :=
  ∑ j : Fin 256, hidden X wg wu j * wd j l

open Cert.Kernel3Ideal Cert.Kernel3Ideal.Gen

theorem pay1_apply (x : Vec Ideal S512x1024 .f32) (g u : Vec Ideal S1x1024x256 .f32) (d : Vec Ideal S1x256x1024 .f32) (r : Fin 512) (l : Fin 1024) :
    k0_pay1 (F := Ideal) x g u d (ix2 r l)
      = expertRow (fun k => x (ix2 r k)) (fun k j => g (ix3 0 k j)) (fun k j => u (ix3 0 k j)) (fun j l => d (ix3 0 j l)) l := by
  pointwise [k0_pay1, expertRow, hidden, col]
  simp only [half_tanh]

theorem pay2_apply (r : Fin 512) (l : Fin 1024) : k0_pay2 (F := Ideal) (ix2 r l) = 0 := by
  pointwise [k0_pay2]

/-- The tile's stored value, row by row, the blocks' rows named. -/
theorem outv_eq (i : grid0.Coords) (v : BitVec 32) (x0 : Vec Ideal S512x1024 .f32) (x1 x2 : Vec Ideal S1x1024x256 .f32) (x3 : Vec Ideal S1x256x1024 .f32)
    (r : Fin 512) (l : Fin 1024) (X : Fin 1024 → EReal) (G U : Fin 1024 → Fin 256 → EReal) (D : Fin 256 → Fin 1024 → EReal)
    (h0 : ∀ k, x0 (ix2 r k) = X k) (h1 : ∀ k j, x1 (ix3 0 k j) = G k j) (h2 : ∀ k j, x2 (ix3 0 k j) = U k j) (h3 : ∀ j l, x3 (ix3 0 j l) = D j l) :
    outv (F := Ideal) i v x0 x1 x2 x3 (ix2 r l) = if before i v then expertRow X G U D l else 0 := by
  have hz : (![0, 0] : Fin 2 → Nat) = fun _ => 0 := funext fun a => by fin_cases a <;> rfl
  have hz3 : (![0, 0, 0] : Fin 3 → Nat) = fun _ => 0 := funext fun a => by fin_cases a <;> rfl
  unfold outv
  by_cases hb : before i v = true
  · rw [if_pos hb, if_pos hb]
    unfold prodv
    rw [View.canon_unit_zero hz, View.ld_unit_zero hz, View.ld_unit_zero hz3, View.ld_unit_zero hz3, View.ld_unit_zero hz3, pay1_apply]
    simp only [h0, h1, h2, h3]
  · rw [if_neg hb, if_neg hb]
    unfold zerov
    rw [View.canon_unit_zero hz, pay2_apply]

end Cert.Proof.Experts

end
-- ==== Proof.Experts.Array.lean ====
/-
  What the experts' call leaves in its result array over the extended reals: row `n`, which lies in tile `n / 512`, is the
  output row of the tile's expert if the tile is in use, and zero if not.
-/
module

public import proofs.«01_k».proof.Proof.Experts.Run
public import proofs.«01_k».proof.Proof.Experts.Block
public import Idealize.ShloMosaic.Lib.Pipeline.Value

@[expose] public section

set_option maxRecDepth 16384

noncomputable section

namespace Cert.Proof.Experts

open Cert.Kernel3Ideal Cert.Kernel3Ideal.Gen
open Idealize.ShloMosaic Idealize.ShloMosaic.TcCoe Idealize.SL.Sem
open Idealize.ShloMosaic.Pipeline (Dat)

/-! ## Where the blocks lie -/

theorem tile_rows : ∀ t : Fin grid0.N, (grid0.coords t 0).val = t.val
    ∧ (cc0_transform_0 (grid0.coords t) 0 = t.val ∧ cc0_transform_0 (grid0.coords t) 1 = 0)
    ∧ (cc0_transform_4 (grid0.coords t) 0 = t.val ∧ cc0_transform_4 (grid0.coords t) 1 = 0) := by decide +kernel

/-- Row `r` of tile `t`. -/
abbrev tileRow (t : Fin grid0.N) (r : Fin 512) : Fin 81920 := ⟨512 * t.val + r.val, by have h : t.val < 160 := t.isLt; omega⟩

/-- The tile of row `n`. -/
abbrev tileOf (n : Fin 81920) : Fin 160 := ⟨n.val / 512, by omega⟩

/-- The result array: the experts' rows where the tile is in use. -/
def expertsOut (te : S160.Idx → BitVec 32) (nu : S1.Idx → BitVec 32) (X : FVec Ideal S81920x1024 .f32) (G U : FVec Ideal S32x1024x256 .f32)
    (D : FVec Ideal S32x256x1024 .f32) (hte : ∀ n, (te n).toNat < 32) : FVec Ideal S81920x1024 .f32 := fun i =>
  if (BitVec.ofNat 32 (tileOf (i 0)).val).slt (nu (ix1 (0 : Fin 1))) then
    expertRow (fun k => X (ix2 (i 0) k)) (fun k j => G (ix3 ⟨_, hte (ix1 (tileOf (i 0)))⟩ k j)) (fun k j => U (ix3 ⟨_, hte (ix1 (tileOf (i 0)))⟩ k j))
      (fun j l => D (ix3 ⟨_, hte (ix1 (tileOf (i 0)))⟩ j l)) (i 1)
  else 0

section

variable (m : (ℓ : Loc nD τ sig) → Buf (Elt Ideal) ℓ) (hw : ∀ n, (w1 m n).toNat < 32) (c : Dev nD)

abbrev argX : FVec Ideal S81920x1024 .f32 := m ((c : Thread nD τ).loc main_arg2)
abbrev argG : FVec Ideal S32x1024x256 .f32 := m ((c : Thread nD τ).loc main_arg3)
abbrev argU : FVec Ideal S32x1024x256 .f32 := m ((c : Thread nD τ).loc main_arg4)
abbrev argD : FVec Ideal S32x256x1024 .f32 := m ((c : Thread nD τ).loc main_arg5)

/-- The expert of tile `t`. -/
abbrev expertOf (t : Fin grid0.N) : Fin 32 := ⟨(w1 m (ix1 (show Fin 160 from t))).toNat, hw _⟩

theorem expertAt_eq (t : Fin grid0.N) : (expertAt (pfM m) (grid0.coords t)).toNat = (expertOf m hw t).val := by
  show (w1 m (ix1 (show Fin 160 from grid0.coords t 0))).toNat = (w1 m (ix1 (show Fin 160 from t))).toNat
  have e : (show Fin 160 from grid0.coords t 0) = (show Fin 160 from t) := Fin.ext (tile_rows t).1
  rw [e]

theorem iblk0 (t : Fin grid0.N) (r : Fin 512) (k : Fin 1024) :
    (iblk m hw c 0 t : Vec Ideal S512x1024 .f32) (ix2 r k) = argX m c (ix2 (tileRow t r) k) := by
  refine (View.read_apply _ _).trans ?_
  show V m c main_arg2 _ = _
  congr 1
  funext a
  apply Fin.ext
  match a with
  | ⟨0, _⟩ => show cc0_transform_0 (grid0.coords t) 0 * 512 + 1 * r.val = 512 * t.val + r.val; rw [(tile_rows t).2.1.1]; omega
  | ⟨1, _⟩ => show cc0_transform_0 (grid0.coords t) 1 * 1024 + 1 * k.val = k.val; rw [(tile_rows t).2.1.2]; omega

theorem iblk1 (t : Fin grid0.N) (k : Fin 1024) (j : Fin 256) :
    (iblk m hw c 1 t : Vec Ideal S1x1024x256 .f32) (ix3 0 k j) = argG m c (ix3 (expertOf m hw t) k j) := by
  refine (View.read_apply _ _).trans ?_
  show V m c main_arg3 _ = _
  congr 1
  funext a
  apply Fin.ext
  match a with
  | ⟨0, _⟩ =>
    show cc0_transform_1 k0_off1_inb numel1_S1 (pfM m) (grid0.coords t) 0 * 1 + 1 * 0 = (expertOf m hw t).val
    rw [transform_1_eq, ← expertAt_eq]; show _ * 1 + 1 * 0 = _; rw [Nat.mul_one]; rfl
  | ⟨1, _⟩ =>
    show cc0_transform_1 k0_off1_inb numel1_S1 (pfM m) (grid0.coords t) 1 * 1024 + 1 * k.val = k.val
    rw [transform_1_eq]; show 0 * 1024 + 1 * k.val = k.val; omega
  | ⟨2, _⟩ =>
    show cc0_transform_1 k0_off1_inb numel1_S1 (pfM m) (grid0.coords t) 2 * 256 + 1 * j.val = j.val
    rw [transform_1_eq]; show 0 * 256 + 1 * j.val = j.val; omega

theorem iblk2 (t : Fin grid0.N) (k : Fin 1024) (j : Fin 256) :
    (iblk m hw c 2 t : Vec Ideal S1x1024x256 .f32) (ix3 0 k j) = argU m c (ix3 (expertOf m hw t) k j) := by
  refine (View.read_apply _ _).trans ?_
  show V m c main_arg4 _ = _
  congr 1
  funext a
  apply Fin.ext
  match a with
  | ⟨0, _⟩ =>
    show cc0_transform_2 k0_off1_inb numel1_S1 (pfM m) (grid0.coords t) 0 * 1 + 1 * 0 = (expertOf m hw t).val
    rw [transform_2_eq, ← expertAt_eq]; show _ * 1 + 1 * 0 = _; rw [Nat.mul_one]; rfl
  | ⟨1, _⟩ =>
    show cc0_transform_2 k0_off1_inb numel1_S1 (pfM m) (grid0.coords t) 1 * 1024 + 1 * k.val = k.val
    rw [transform_2_eq]; show 0 * 1024 + 1 * k.val = k.val; omega
  | ⟨2, _⟩ =>
    show cc0_transform_2 k0_off1_inb numel1_S1 (pfM m) (grid0.coords t) 2 * 256 + 1 * j.val = j.val
    rw [transform_2_eq]; show 0 * 256 + 1 * j.val = j.val; omega

theorem iblk3 (t : Fin grid0.N) (j : Fin 256) (l : Fin 1024) :
    (iblk m hw c 3 t : Vec Ideal S1x256x1024 .f32) (ix3 0 j l) = argD m c (ix3 (expertOf m hw t) j l) := by
  refine (View.read_apply _ _).trans ?_
  show V m c main_arg5 _ = _
  congr 1
  funext a
  apply Fin.ext
  match a with
  | ⟨0, _⟩ =>
    show cc0_transform_3 k0_off1_inb numel1_S1 (pfM m) (grid0.coords t) 0 * 1 + 1 * 0 = (expertOf m hw t).val
    rw [transform_3_eq, ← expertAt_eq]; show _ * 1 + 1 * 0 = _; rw [Nat.mul_one]; rfl
  | ⟨1, _⟩ =>
    show cc0_transform_3 k0_off1_inb numel1_S1 (pfM m) (grid0.coords t) 1 * 256 + 1 * j.val = j.val
    rw [transform_3_eq]; show 0 * 256 + 1 * j.val = j.val; omega
  | ⟨2, _⟩ =>
    show cc0_transform_3 k0_off1_inb numel1_S1 (pfM m) (grid0.coords t) 2 * 1024 + 1 * l.val = l.val
    rw [transform_3_eq]; show 0 * 1024 + 1 * l.val = l.val; omega

/-- The result array in a run from `m`. -/
def result : FVec Ideal S81920x1024 .f32 := expertsOut (w1 m) (w2 m) (argX m c) (argG m c) (argU m c) (argD m c) hw

/-- What tile `t` stores is its rows of the result array. -/
theorem outAt_apply (t : Fin grid0.N) (r : Fin 512) (l : Fin 1024) :
    outAt m hw c t (ix2 r l) = result m hw c (ix2 (tileRow t r) l) := by
  refine (outv_eq (grid0.coords t) (word (w2 m)) (iblk m hw c 0 t) (iblk m hw c 1 t) (iblk m hw c 2 t) (iblk m hw c 3 t) r l _ _ _ _
    (iblk0 m hw c t r) (iblk1 m hw c t) (iblk2 m hw c t) (iblk3 m hw c t)).trans ?_
  have ht : t.val < 160 := t.isLt
  have e : tileOf (tileRow t r) = (show Fin 160 from t) := Fin.ext (by show (512 * t.val + r.val) / 512 = t.val; omega)
  have eb : before (grid0.coords t) (word (w2 m)) = (BitVec.ofNat 32 (tileOf (tileRow t r)).val).slt (w2 m (ix1 (0 : Fin 1))) := by
    rw [e]; show (BitVec.ofNat 32 (grid0.coords t 0).val).slt _ = _; rw [(tile_rows t).1]; rfl
  have ee : (⟨_, hw (ix1 (tileOf (tileRow t r)))⟩ : Fin 32) = expertOf m hw t := Fin.ext (by show (w1 m (ix1 (tileOf (tileRow t r)))).toNat = _; rw [e])
  rw [eb]
  show _ = if (BitVec.ofNat 32 (tileOf (tileRow t r)).val).slt (w2 m (ix1 (0 : Fin 1))) then
    expertRow (fun k => argX m c (ix2 (tileRow t r) k)) (fun k j => argG m c (ix3 ⟨_, hw (ix1 (tileOf (tileRow t r)))⟩ k j))
      (fun k j => argU m c (ix3 ⟨_, hw (ix1 (tileOf (tileRow t r)))⟩ k j)) (fun j l => argD m c (ix3 ⟨_, hw (ix1 (tileOf (tileRow t r)))⟩ j l)) l
    else 0
  rw [ee]

theorem flush4 (t : Fin (cfgM m hw).N) : ((cfgM m hw).win 4).flush t = true := by
  refine (Pipeline.Window.flush_out _ rfl t).2 ?_
  by_cases h : t.val + 1 = (cfgM m hw).N
  · exact .inl h
  · have hlt : t.val + 1 < grid0.N := lt_of_le_of_ne t.isLt h
    refine .inr ⟨hlt, fun he => ?_⟩
    have h0 : cc0_transform_4 (grid0.coords ⟨t.val + 1, hlt⟩) 0 = cc0_transform_4 (grid0.coords t) 0 := congrFun he (0 : Fin 2)
    rw [(tile_rows ⟨t.val + 1, hlt⟩).2.2.1, (tile_rows t).2.2.1] at h0
    exact absurd h0 (Nat.succ_ne_self _)

theorem emb4 (t : Fin (cfgM m hw).N) (r : Fin 512) (l : Fin 1024) :
    (((cfgM m hw).win 4).blk t).view.emb (ix2 r l : S512x1024.Idx) = (ix2 (tileRow t r) l : S81920x1024.Idx) := by
  funext a
  apply Fin.ext
  match a with
  | ⟨0, _⟩ => show cc0_transform_4 (grid0.coords t) 0 * 512 + 1 * r.val = 512 * t.val + r.val; rw [(tile_rows t).2.2.1]; omega
  | ⟨1, _⟩ => show cc0_transform_4 (grid0.coords t) 1 * 1024 + 1 * l.val = l.val; rw [(tile_rows t).2.2.2]; omega

/-- The result array after the last tile. -/
theorem final : (dats m hw 0 c).arrAt 4 (cfgM m hw).N = result m hw c := by
  refine (dats m hw 0 c).arrAt_eq_of_cover 4 (result m hw c) (fun t _ => ?_) fun i => ?_
  · show ((cfgM m hw).win 4).cut ((cfgM m hw).grid.coords t) ((dats m hw 0 c).after 4 t) = _
    rw [after_4 m hw c t]
    show (outAt m hw c t : Vec Ideal S512x1024 .f32) = _
    funext y
    obtain ⟨r, l, rfl⟩ : ∃ (r : Fin 512) (l : Fin 1024), y = (ix2 r l : S512x1024.Idx) := ⟨y 0, y 1, eq_ix2 y⟩
    refine (outAt_apply m hw c t r l).trans ?_
    exact (congrArg (result m hw c) (emb4 m hw t r l)).symm
  · change S81920x1024.Idx at i
    have h0 : (i 0 : Nat) < 81920 := (i 0).isLt
    have hN : (cfgM m hw).N = 160 := N_0
    let t : Fin (cfgM m hw).N := ⟨(i 0 : Nat) / 512, by omega⟩
    refine ⟨t, flush4 m hw t, ?_⟩
    have e : (((cfgM m hw).win 4).blk t).view.emb (ix2 ⟨(i 0 : Nat) % 512, by omega⟩ (i 1) : S512x1024.Idx) = i := by
      refine (emb4 m hw t _ _).trans ?_
      funext a
      apply Fin.ext
      match a with
      | ⟨0, _⟩ => show 512 * ((i 0 : Nat) / 512) + (i 0 : Nat) % 512 = (i 0 : Nat); omega
      | ⟨1, _⟩ => rfl
    have := (((cfgM m hw).win 4).blk t).view.emb_mem_set (ix2 ⟨(i 0 : Nat) % 512, by omega⟩ (i 1) : S512x1024.Idx)
    rwa [e] at this

end

end Cert.Proof.Experts

end
-- ==== Proof.Experts.RefValue.lean ====
/-
  The experts' reference over the extended reals: one trip of its loop puts one expert's rows in place (`trip_apply`), and
  after all trips every row in use holds its own expert's output row (`loop_apply`).
-/
module

public import proofs.«01_k».proof.Proof.Experts.Array
public import proofs.«01_k».proof.Proof.Gen.Reference3Ideal.Run
public import Idealize.ShloMosaic.Lib.Pointwise
public import Idealize.ShloMosaic.Lib.WordCmp

@[expose] public section

set_option maxRecDepth 16384

noncomputable section

namespace Cert.Proof.Experts.Ref

open Idealize.ShloMosaic Idealize.ShloMosaic.TcCoe Idealize.SL.Sem
open Idealize.ShloMosaic.StableHlo
open Cert.Proof.Ple (gate)
open Cert.Reference3Ideal Cert.Reference3Ideal.Gen Cert.Reference3Ideal.Facts Cert.Reference3Ideal.Value

/-- The start of a slice of one expert's matrix: the loop's index on the first axis, the origin on the others. -/
def start (a b : BitVec 32) (ix : IVec S_ 32) : Fin 3 → Int :=
  fun k => (((![select (cmpi .slt ix (constantI S_ 32 0#32)) (addi ix (constantI S_ 32 32#32)) ix, select (cmpi .slt (constantI S_ 32 0#32) (constantI S_ 32 0#32)) (addi (constantI S_ 32 0#32) (constantI S_ 32 a)) (constantI S_ 32 0#32), select (cmpi .slt (constantI S_ 32 0#32) (constantI S_ 32 0#32)) (addi (constantI S_ 32 0#32) (constantI S_ 32 b)) (constantI S_ 32 0#32)] : Fin 3 → IVec S_ 32)) k (Shape.Idx.first h_S_)).toInt

/-- At trip `e` it is `e`. -/
theorem start_eq (a b : BitVec 32) (e : Fin 32) (k : Fin 3) : start a b (fun _ => BitVec.ofNat 32 e.val) k = ((![e.val, 0, 0] : Fin 3 → Nat) k : Int) := by
  match k with
  | ⟨0, _⟩ =>
    show (Scalar.select (IntOp.cmpi .slt (BitVec.ofNat 32 e.val) 0#32) (IntOp.addi (BitVec.ofNat 32 e.val) 32#32) (BitVec.ofNat 32 e.val)).toInt = (e.val : Int)
    revert e; decide
  | ⟨1, _⟩ => rfl
  | ⟨2, _⟩ => rfl

/-- One expert's gate or up matrix, -/
def sliceG (ix : IVec S_ 32) (G : FVec Ideal S32x1024x256 .f32) : FVec Ideal S1024x256 .f32 :=
  shapeCast S1024x256 (Host.dynamicSlice S1x1024x256 G (start 1024#32 256#32 ix) sliceFits_S32x1024x256_S1x1024x256) shapeCasts_S1x1024x256_S1024x256
/-- and its down matrix. -/
def sliceD (ix : IVec S_ 32) (D : FVec Ideal S32x256x1024 .f32) : FVec Ideal S256x1024 .f32 :=
  shapeCast S256x1024 (Host.dynamicSlice S1x256x1024 D (start 256#32 1024#32 ix) sliceFits_S32x256x1024_S1x256x1024) shapeCasts_S1x256x1024_S256x1024

theorem sliceG_apply (e : Fin 32) (G : FVec Ideal S32x1024x256 .f32) (k : Fin 1024) (j : Fin 256) :
    sliceG (fun _ => BitVec.ofNat 32 e.val) G (ix2 k j) = G (ix3 e k j) := by
  unfold sliceG
  have hk : S32x1024x256.Slices (![e.val, 0, 0] : Fin 3 → Nat) S1x1024x256 := ⟨rfl, fun a => by
    match a with
    | ⟨0, _⟩ => show e.val + 1 ≤ 32; omega
    | ⟨1, _⟩ => show 0 + 1024 ≤ 1024; omega
    | ⟨2, _⟩ => show 0 + 256 ≤ 256; omega⟩
  have hs := WordCmp.dynamicSlice_eq_extract S1x1024x256 G (start 1024#32 256#32 fun _ => BitVec.ofNat 32 e.val) sliceFits_S32x1024x256_S1x1024x256
    (![e.val, 0, 0] : Fin 3 → Nat) hk (start_eq _ _ e)
  rw [hs]
  pointwise []

theorem sliceD_apply (e : Fin 32) (D : FVec Ideal S32x256x1024 .f32) (j : Fin 256) (l : Fin 1024) :
    sliceD (fun _ => BitVec.ofNat 32 e.val) D (ix2 j l) = D (ix3 e j l) := by
  unfold sliceD
  have hk : S32x256x1024.Slices (![e.val, 0, 0] : Fin 3 → Nat) S1x256x1024 := ⟨rfl, fun a => by
    match a with
    | ⟨0, _⟩ => show e.val + 1 ≤ 32; omega
    | ⟨1, _⟩ => show 0 + 256 ≤ 256; omega
    | ⟨2, _⟩ => show 0 + 1024 ≤ 1024; omega⟩
  have hs := WordCmp.dynamicSlice_eq_extract S1x256x1024 D (start 256#32 1024#32 fun _ => BitVec.ofNat 32 e.val) sliceFits_S32x256x1024_S1x256x1024
    (![e.val, 0, 0] : Fin 3 → Nat) hk (start_eq _ _ e)
  rw [hs]
  pointwise []

/-- One expert's rows of all tokens: its three matrices' products, -/
def rowsOf (X : FVec Ideal S81920x1024 .f32) (g u : FVec Ideal S1024x256 .f32) (d : FVec Ideal S256x1024 .f32) : FVec Ideal S81920x1024 .f32 :=
  Host.dotGeneral dot_S81920x256_S256x1024_S81920x1024_1_0_0_1_n_n none
    (mulf (mulf (Host.dotGeneral dot_S81920x1024_S1024x256_S81920x256_1_0_0_1_n_n none X g)
        (Host.divf (broadcastInDim S81920x256 ![] bcast_S_S81920x256 (constant S_ .f32 0x3F800000#32))
          (addf (broadcastInDim S81920x256 ![] bcast_S_S81920x256 (constant S_ .f32 0x3F800000#32))
            (Host.exp (Host.negf (Host.dotGeneral dot_S81920x1024_S1024x256_S81920x256_1_0_0_1_n_n none X g))))))
      (Host.dotGeneral dot_S81920x1024_S1024x256_S81920x256_1_0_0_1_n_n none X u)) d

/-- and one trip: they replace the rows that are in use and routed to it. -/
def trip (G U : FVec Ideal S32x1024x256 .f32) (D : FVec Ideal S32x256x1024 .f32) (X : FVec Ideal S81920x1024 .f32) (ids : IVec S81920 32)
    (us : IVec S81920 1) (ix : IVec S_ 32) (out : FVec Ideal S81920x1024 .f32) : FVec Ideal S81920x1024 .f32 :=
  select (broadcastInDim S81920x1024 ![0, 1] bcast_S81920x1_S81920x1024_0_1
      (broadcastInDim S81920x1 ![0] bcast_S81920_S81920x1_0 (andi us (cmpi .eq ids (broadcastInDim S81920 ![] bcast_S_S81920 ix)))))
    (rowsOf X (sliceG ix G) (sliceG ix U) (sliceD ix D)) out

theorem rowsOf_apply (X : FVec Ideal S81920x1024 .f32) (g u : FVec Ideal S1024x256 .f32) (d : FVec Ideal S256x1024 .f32) (n : Fin 81920) (l : Fin 1024) :
    rowsOf X g u d (ix2 n l) = expertRow (fun k => X (ix2 n k)) (fun k j => g (ix2 k j)) (fun k j => u (ix2 k j)) (fun j l => d (ix2 j l)) l := by
  pointwise [rowsOf, expertRow, hidden, col, gate]

theorem trip_apply (G U : FVec Ideal S32x1024x256 .f32) (D : FVec Ideal S32x256x1024 .f32) (X : FVec Ideal S81920x1024 .f32) (ids : IVec S81920 32)
    (us : IVec S81920 1) (e : Fin 32) (out : FVec Ideal S81920x1024 .f32) (n : Fin 81920) (l : Fin 1024) :
    trip G U D X ids us (fun _ => BitVec.ofNat 32 e.val) out (ix2 n l)
      = if us (ix1 n) = 1#1 ∧ ids (ix1 n) = BitVec.ofNat 32 e.val then
          expertRow (fun k => X (ix2 n k)) (fun k j => G (ix3 e k j)) (fun k j => U (ix3 e k j)) (fun j l => D (ix3 e j l)) l
        else out (ix2 n l) := by
  have h : trip G U D X ids us (fun _ => BitVec.ofNat 32 e.val) out (ix2 n l)
      = Scalar.select (IntOp.andi (us (ix1 n)) (IntOp.cmpi .eq (ids (ix1 n)) (BitVec.ofNat 32 e.val)))
          (rowsOf X (sliceG (fun _ => BitVec.ofNat 32 e.val) G) (sliceG (fun _ => BitVec.ofNat 32 e.val) U) (sliceD (fun _ => BitVec.ofNat 32 e.val) D) (ix2 n l))
          (out (ix2 n l)) := by
    pointwise [trip]
  rw [h, rowsOf_apply]
  simp only [sliceG_apply, sliceD_apply]
  have ha : ∀ p q : BitVec 1, IntOp.andi p q = 1#1 ↔ p = 1#1 ∧ q = 1#1 := by decide
  have hc : IntOp.cmpi .eq (ids (ix1 n)) (BitVec.ofNat 32 e.val) = 1#1 ↔ ids (ix1 n) = BitVec.ofNat 32 e.val := by
    show BitVec.ofBool (ids (ix1 n) == BitVec.ofNat 32 e.val) = 1#1 ↔ _
    by_cases hq : ids (ix1 n) = BitVec.ofNat 32 e.val
    · simp [hq]
    · rw [beq_eq_false_iff_ne.2 hq]
      exact ⟨fun h' => absurd h' (by decide), fun h' => absurd h' hq⟩
  unfold Scalar.select
  exact if_congr ((ha _ _).trans (and_congr Iff.rfl hc)) rfl rfl

/-- What one trip makes of the carried buffers. -/
theorem step_eq (V0 : Valuation τ sig (Elt Ideal)) : step_main_v9_8 V0
    = trip (V0 (Proc.devRef .tc main_v9_0)) (V0 (Proc.devRef .tc main_v9_2)) (V0 (Proc.devRef .tc main_v9_5)) (V0 (Proc.devRef .tc main_v9_1))
        (V0 (Proc.devRef .tc main_v9_3)) (V0 (Proc.devRef .tc main_v9_4)) (V0 (Proc.devRef .tc main_v9_7)) (V0 (Proc.devRef .tc main_v9_8)) := rfl

section Loop

variable (m : (ℓ : Loc nD τ sig) → Buf (Elt Ideal) ℓ) (c : Dev nD)

/-- The carried buffers before trip `k`. -/
abbrev at' (k : Nat) : Valuation τ sig (Elt Ideal) := STEP^[k] (entryContents preI m c)

theorem at_succ (k : Nat) : at' m c (k + 1) = STEP (at' m c k) := Function.iterate_succ_apply' _ _ _

/-! The loop's operands stay, -/
theorem at_0 : ∀ k, at' m c k (Proc.devRef .tc main_v9_0) = entryContents preI m c (Proc.devRef .tc main_v9_0)
  | 0 => rfl
  | k + 1 => by rw [at_succ, STEP_main_v9_0, at_0 k]
theorem at_1 : ∀ k, at' m c k (Proc.devRef .tc main_v9_1) = entryContents preI m c (Proc.devRef .tc main_v9_1)
  | 0 => rfl
  | k + 1 => by rw [at_succ, STEP_main_v9_1, at_1 k]
theorem at_2 : ∀ k, at' m c k (Proc.devRef .tc main_v9_2) = entryContents preI m c (Proc.devRef .tc main_v9_2)
  | 0 => rfl
  | k + 1 => by rw [at_succ, STEP_main_v9_2, at_2 k]
theorem at_3 : ∀ k, at' m c k (Proc.devRef .tc main_v9_3) = entryContents preI m c (Proc.devRef .tc main_v9_3)
  | 0 => rfl
  | k + 1 => by rw [at_succ, STEP_main_v9_3, at_3 k]
theorem at_4 : ∀ k, at' m c k (Proc.devRef .tc main_v9_4) = entryContents preI m c (Proc.devRef .tc main_v9_4)
  | 0 => rfl
  | k + 1 => by rw [at_succ, STEP_main_v9_4, at_4 k]
theorem at_5 : ∀ k, at' m c k (Proc.devRef .tc main_v9_5) = entryContents preI m c (Proc.devRef .tc main_v9_5)
  | 0 => rfl
  | k + 1 => by rw [at_succ, STEP_main_v9_5, at_5 k]

/-! and are these at its entry. -/
theorem entry_0 : entryContents preI m c (Proc.devRef .tc main_v9_0) = m ((c : Thread nD τ).loc main_arg3) := by
  simp only [entryContents, afterL_cons, afterL_nil]
  after_results
  rfl
theorem entry_1 : entryContents preI m c (Proc.devRef .tc main_v9_1) = m ((c : Thread nD τ).loc main_arg2) := by
  simp only [entryContents, afterL_cons, afterL_nil]
  after_results
  rfl
theorem entry_2 : entryContents preI m c (Proc.devRef .tc main_v9_2) = m ((c : Thread nD τ).loc main_arg4) := by
  simp only [entryContents, afterL_cons, afterL_nil]
  after_results
  rfl
theorem entry_5 : entryContents preI m c (Proc.devRef .tc main_v9_5) = m ((c : Thread nD τ).loc main_arg5) := by
  simp only [entryContents, afterL_cons, afterL_nil]
  after_results
  rfl
theorem entry_7 : (entryContents preI m c (Proc.devRef .tc main_v9_7) : IVec S_ 32) = fun _ => 0#32 := by
  simp only [entryContents, afterL_cons, afterL_nil]
  after_results
  rfl
/-- The zeros that the rows start from. -/
def zeros : FVec Ideal S81920x1024 .f32 := broadcastInDim S81920x1024 ![] bcast_S_S81920x1024 (constant S_ .f32 0x00000000#32)

theorem entry_8 : (entryContents preI m c (Proc.devRef .tc main_v9_8) : FVec Ideal S81920x1024 .f32) = zeros := by
  simp only [entryContents, afterL_cons, afterL_nil]
  after_results
  rfl

/-- The expert of every row: the table's entries, 512 times each. -/
def ids (te : IVec S160 32) : IVec S81920 32 :=
  shapeCast S81920 (broadcastInDim S160x512 ![0] bcast_S160_S160x512_0 te) shapeCasts_S160x512_S81920
/-- The rows of the tiles in use. -/
def used (nu : IVec S1 32) : IVec S81920 1 :=
  shapeCast S81920 (broadcastInDim S160x512 ![0] bcast_S160_S160x512_0
    (cmpi .slt (iotaInDim S160 32 0) (broadcastInDim S160 ![] bcast_S_S160 (shapeCast S_ nu shapeCasts_S1_S_)))) shapeCasts_S160x512_S81920

theorem entry_3 : (entryContents preI m c (Proc.devRef .tc main_v9_3) : IVec S81920 32) = ids (m ((c : Thread nD τ).loc main_arg0)) := by
  simp only [entryContents, afterL_cons, afterL_nil]
  after_results
  rfl
theorem entry_4 : (entryContents preI m c (Proc.devRef .tc main_v9_4) : IVec S81920 1) = used (m ((c : Thread nD τ).loc main_arg1)) := by
  simp only [entryContents, afterL_cons, afterL_nil]
  after_results
  rfl

/-- 160 tiles of 512 rows read as one array of rows. -/
theorem flat_apply {α : Type} (y : S160x512.Idx → α) (n : Fin 81920) :
    shapeCast S81920 y shapeCasts_S160x512_S81920 (ix1 n) = y (ix2 (tileOf n) ⟨n.val % 512, by omega⟩) :=
  shapeCast_apply y _ _ _ (by
    rw [Shape.rowMajor_val_two, Shape.rowMajor_val_one]
    show n.val / 512 * 512 + n.val % 512 = n.val
    omega)

theorem ids_apply (te : IVec S160 32) (n : Fin 81920) : ids te (ix1 n) = te (ix1 (tileOf n)) := by
  unfold ids
  rw [flat_apply]
  pointwise []

theorem used_apply (nu : IVec S1 32) (n : Fin 81920) :
    used nu (ix1 n) = 1#1 ↔ (BitVec.ofNat 32 (tileOf n).val).slt (nu (ix1 (0 : Fin 1))) = true := by
  unfold used
  rw [flat_apply]
  have h : broadcastInDim S160x512 ![0] bcast_S160_S160x512_0
      (cmpi .slt (iotaInDim S160 32 0) (broadcastInDim S160 ![] bcast_S_S160 (shapeCast S_ nu shapeCasts_S1_S_))) (ix2 (tileOf n) ⟨n.val % 512, by omega⟩)
      = BitVec.ofBool ((BitVec.ofNat 32 (tileOf n).val).slt (nu (ix1 (0 : Fin 1)))) := by
    pointwise []
    rfl
  rw [h]
  cases (BitVec.ofNat 32 (tileOf n).val).slt (nu (ix1 (0 : Fin 1))) <;> decide

/-- The loop's index before trip `k`. -/
theorem at_7 : ∀ k, (at' m c k (Proc.devRef .tc main_v9_7) : IVec S_ 32) = fun _ => BitVec.ofNat 32 k
  | 0 => entry_7 m c
  | k + 1 => by
    rw [at_succ, STEP_main_v9_7]
    unfold step_main_v9_7
    rw [at_7 k]
    funext y
    show BitVec.ofNat 32 k + 1#32 = BitVec.ofNat 32 (k + 1)
    rw [BitVec.ofNat_add]

end Loop

section Rows

variable (te : IVec S160 32) (nu : IVec S1 32) (X : FVec Ideal S81920x1024 .f32) (G U : FVec Ideal S32x1024x256 .f32) (D : FVec Ideal S32x256x1024 .f32)
  (hte : ∀ n, (te n).toNat < 32)

/-- The experts' rows in place before trip `k`: those of the experts below `k`. -/
def upto (k : Nat) : FVec Ideal S81920x1024 .f32 := fun i =>
  if (te (ix1 (tileOf (i 0)))).toNat < k then expertsOut te nu X G U D hte i else 0

/-- One trip more. -/
theorem trip_upto (e : Fin 32) : trip G U D X (ids te) (used nu) (fun _ => BitVec.ofNat 32 e.val) (upto te nu X G U D hte e.val)
    = upto te nu X G U D hte (e.val + 1) := by
  funext y
  obtain ⟨n, l, rfl⟩ : ∃ (n : Fin 81920) (l : Fin 1024), y = (ix2 n l : S81920x1024.Idx) := ⟨y 0, y 1, eq_ix2 y⟩
  rw [trip_apply, ids_apply]
  have hu := used_apply nu n
  have hE : te (ix1 (tileOf n)) = BitVec.ofNat 32 e.val ↔ (te (ix1 (tileOf n))).toNat = e.val := by
    rw [← BitVec.toNat_inj, BitVec.toNat_ofNat, Nat.mod_eq_of_lt (by omega)]
  show _ = if (te (ix1 (tileOf n))).toNat < e.val + 1 then (if (BitVec.ofNat 32 (tileOf n).val).slt (nu (ix1 (0 : Fin 1))) then
    expertRow (fun k => X (ix2 n k)) (fun k j => G (ix3 ⟨_, hte (ix1 (tileOf n))⟩ k j)) (fun k j => U (ix3 ⟨_, hte (ix1 (tileOf n))⟩ k j))
      (fun j l => D (ix3 ⟨_, hte (ix1 (tileOf n))⟩ j l)) l else 0) else 0
  show (if _ then _ else if (te (ix1 (tileOf n))).toNat < e.val then (if (BitVec.ofNat 32 (tileOf n).val).slt (nu (ix1 (0 : Fin 1))) then
    expertRow (fun k => X (ix2 n k)) (fun k j => G (ix3 ⟨_, hte (ix1 (tileOf n))⟩ k j)) (fun k j => U (ix3 ⟨_, hte (ix1 (tileOf n))⟩ k j))
      (fun j l => D (ix3 ⟨_, hte (ix1 (tileOf n))⟩ j l)) l else 0) else 0) = _
  by_cases hb : (BitVec.ofNat 32 (tileOf n).val).slt (nu (ix1 (0 : Fin 1))) = true
  · by_cases he : (te (ix1 (tileOf n))).toNat = e.val
    · have ee : (⟨_, hte (ix1 (tileOf n))⟩ : Fin 32) = e := Fin.ext he
      rw [if_pos ⟨hu.2 hb, hE.2 he⟩, if_pos (show (te (ix1 (tileOf n))).toNat < e.val + 1 by omega), if_pos hb, ee]
    · rw [if_neg (fun h => he (hE.1 h.2))]
      by_cases hl : (te (ix1 (tileOf n))).toNat < e.val
      · rw [if_pos hl, if_pos (show (te (ix1 (tileOf n))).toNat < e.val + 1 by omega)]
      · rw [if_neg hl, if_neg (show ¬ (te (ix1 (tileOf n))).toNat < e.val + 1 by omega)]
  · rw [if_neg (fun h => hb (hu.1 h.1)), if_neg hb]
    simp only [ite_self]

end Rows

section

variable (m : (ℓ : Loc nD τ sig) → Buf (Elt Ideal) ℓ) (c : Dev nD)

abbrev tbl : IVec S160 32 := m ((c : Thread nD τ).loc main_arg0)
abbrev cnt : IVec S1 32 := m ((c : Thread nD τ).loc main_arg1)
abbrev refX : FVec Ideal S81920x1024 .f32 := m ((c : Thread nD τ).loc main_arg2)
abbrev refG : FVec Ideal S32x1024x256 .f32 := m ((c : Thread nD τ).loc main_arg3)
abbrev refU : FVec Ideal S32x1024x256 .f32 := m ((c : Thread nD τ).loc main_arg4)
abbrev refD : FVec Ideal S32x256x1024 .f32 := m ((c : Thread nD τ).loc main_arg5)

variable (hte : ∀ n, (tbl m c n).toNat < 32)

/-- Before trip `k` the rows of the experts below `k` are in place. -/
theorem at_8 : ∀ k, k ≤ 32 → (at' m c k (Proc.devRef .tc main_v9_8) : FVec Ideal S81920x1024 .f32)
    = upto (tbl m c) (cnt m c) (refX m c) (refG m c) (refU m c) (refD m c) hte k
  | 0, _ => by
    refine (entry_8 m c).trans (funext fun y => ?_)
    show Ideal.ofBits .f32 0x00000000#32 = if (tbl m c (ix1 (tileOf (y 0)))).toNat < 0 then _ else 0
    rw [if_neg (Nat.not_lt_zero _)]
    pointwise []
  | k + 1, hk => by
    rw [at_succ, STEP_main_v9_8, step_eq, at_0, at_1, at_2, at_3, at_4, at_5, at_7, at_8 k (by omega), entry_0, entry_1, entry_2, entry_3, entry_4, entry_5]
    exact trip_upto (tbl m c) (cnt m c) (refX m c) (refG m c) (refU m c) (refD m c) hte ⟨k, by omega⟩

/-- After all trips every expert's rows are. -/
theorem at_end : (at' m c 32 (Proc.devRef .tc main_v9_8) : FVec Ideal S81920x1024 .f32)
    = expertsOut (tbl m c) (cnt m c) (refX m c) (refG m c) (refU m c) (refD m c) hte := by
  rw [at_8 m c hte 32 (le_refl _)]
  funext y
  exact if_pos (hte _)

end

end Cert.Proof.Experts.Ref

end
-- ==== Proof.Experts.Algebraic.lean ====
/-
  The experts' call against its reference: over the extended reals both leave `expertsOut` of the arguments.
-/
module

public import proofs.«01_k».proof.Proof.Experts.Frame
public import proofs.«01_k».proof.Proof.Experts.RefValue

@[expose] public section

set_option maxRecDepth 16384

noncomputable section

namespace Cert.Proof.Experts

open Idealize.ShloMosaic Idealize.SL.Sem
open Idealize.ShloMosaic.TcCoe

/-- `expertsOut` of equal arguments. -/
theorem expertsOut_congr {te te' : Cert.Kernel3Ideal.S160.Idx → BitVec 32} {nu nu' : Cert.Kernel3Ideal.S1.Idx → BitVec 32}
    {X X' : FVec Ideal Cert.Kernel3Ideal.S81920x1024 .f32} {G G' U U' : FVec Ideal Cert.Kernel3Ideal.S32x1024x256 .f32}
    {D D' : FVec Ideal Cert.Kernel3Ideal.S32x256x1024 .f32} {h : ∀ n, (te n).toNat < 32} {h' : ∀ n, (te' n).toNat < 32}
    (e0 : te = te') (e1 : nu = nu') (e2 : X = X') (e3 : G = G') (e4 : U = U') (e5 : D = D') :
    expertsOut te nu X G U D h = expertsOut te' nu' X' G' U' D' h' := by
  subst e0 e1 e2 e3 e4 e5; rfl

/-- Kernel and reference compute the same array, at tables whose entries name experts. -/
theorem algebraic : Cert.algebraic_Kernel3Ideal_Reference3Ideal := by
  intro m g m' g' hpre hargs
  have hb : ∀ n, (w1 m n).toNat < 32 := table_lt _ _ _ _ _ _ (hpre 0)
  refine ⟨fun c => result m hb c, (θ_run Cert.Kernel3Ideal.defs _ _).mono (fun _ h c => ?_) (run_main (F := Ideal) m g hb),
    (θ_run Cert.Reference3Ideal.defs _ _).mono (fun r h c => ?_) (Cert.Reference3Ideal.Value.run (F := Ideal) m' g')⟩
  · exact ⟨((h.1 c).1 4).trans (final m hb c), args_kept m hb c _ (h.1 c)⟩
  · refine ⟨(h c).1.trans ?_, (h c).2⟩
    obtain rfl : c = (0 : Fin 1) := Subsingleton.elim (α := Fin 1) _ _
    obtain ⟨e0, e1, e2, e3, e4, e5⟩ := hargs (0 : Fin 1)
    have hb' : ∀ n, (Ref.tbl m' (0 : Fin 1) n).toNat < 32 := fun n =>
      (congrArg BitVec.toNat (congrFun e0 n)).trans_lt (hb n)
    exact (Ref.at_end m' (0 : Fin 1) hb').trans (expertsOut_congr e0 e1 e2 e3 e4 e5)

end Cert.Proof.Experts

end
-- ==== Proof.lean ====
/- The proof of the certificate's claim, assembled from the modules under Proof/. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_positions_in_pack
public import proofs.«01_k».proof.Proof.Gen.Pre_experts_exist
public import proofs.«01_k».proof.Proof.Ple.Algebraic
public import proofs.«01_k».proof.Proof.InProj.Value
public import proofs.«01_k».proof.Proof.Experts.Algebraic
public import Idealize.ShloMosaic.Adequacy
public import Idealize.ShloMosaic.Init

@[expose] public section

noncomputable section

namespace Cert.Proof

open Idealize.ShloMosaic Idealize.SL.Sem

/-- The three calls: the embedding call's frames and value, the input projection's, and the experts'. -/
theorem claim : Cert.Claim :=
  ⟨inferInstance, inferInstance, inferInstance, inferInstance, inferInstance, inferInstance, inferInstance, inferInstance, inferInstance,
    inferInstance, inferInstance,
    Ple.frame_kernel, Ple.frame_ideal, Ple.frame_ref, Ple.frame_ref_pre, InProj.frame_kernel, InProj.frame_ideal, InProj.frame_ref,
    Experts.frame_kernel, Experts.frame_ideal, Experts.frame_ref, Experts.frame_ref_pre,
    trivial, Ple.algebraic, trivial, InProj.algebraic, trivial, Experts.algebraic⟩

end Cert.Proof

end
